-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S4096x8192 : Shape := ⟨2, ![4096, 8192]⟩
abbrev S512x1024 : Shape := ⟨2, ![512, 1024]⟩
abbrev S4096x4096 : Shape := ⟨2, ![4096, 4096]⟩
abbrev S2x4096x1024 : Shape := ⟨3, ![2, 4096, 1024]⟩
abbrev S_ : Shape := ⟨0, ![]⟩
abbrev S8 : Shape := ⟨1, ![8]⟩
abbrev S7 : Shape := ⟨1, ![7]⟩
abbrev S1x4096x1024 : Shape := ⟨3, ![1, 4096, 1024]⟩
abbrev S4096x1024 : Shape := ⟨2, ![4096, 1024]⟩
abbrev S512x4096 : Shape := ⟨2, ![512, 4096]⟩

abbrev nBuf : Space → Nat
  | .hbm => 6
  | .vmem => 6
  | .smem => 2
  | _ => 0

abbrev bufTy : (tb : Table) → Fin (tcTables nBuf tb) → BufTy
  | .hbm, ⟨0, _⟩ => ⟨S4096x256, .fp8e4m3⟩
  | .hbm, ⟨1, _⟩ => ⟨S256x8192, .fp8e4m3⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S4096x8192, .fp8e4m3⟩
  | .local _ .vmem, ⟨0, _⟩ => ⟨S4096x256, .fp8e4m3⟩
  | .local _ .vmem, ⟨1, _⟩ => ⟨S256x8192, .fp8e4m3⟩
  | .local _ .vmem, ⟨2, _⟩ => ⟨S512x1024, .f32⟩
  | .local _ .vmem, ⟨3, _⟩ => ⟨S512x1024, .f32⟩
  | .local _ .vmem, ⟨4, _⟩ => ⟨S4096x4096, .fp8e4m3⟩
  | .local _ .vmem, ⟨5, _⟩ => ⟨S2x4096x1024, .fp8e4m3⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev barrier0 : Sem sig := 0

abbrev nD : Nat := 16
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v10 : BitVec 1 := Scalar.cmpi .eq v1 c0_i32
  let v11 : BitVec 32 := Scalar.extui v10
  let c0_i32_5 : BitVec 32 := 0#32
  let v12 : BitVec 1 := Scalar.cmpi .ne v11 c0_i32_5
  v12

def k0_dev1 (d2 : Dev nD) : Nat :=
  let c0_i32_21 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_20 : BitVec 32 := 1#32
  let v43 : BitVec 32 := Scalar.muli v9 c1_i32_20
  let v44 : BitVec 32 := Scalar.addi c0_i32_21 v43
  v44.toNat
def k0_dev2 (d2 : Dev nD) : Nat :=
  let c0_i32_24 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_23 : BitVec 32 := 1#32
  let v45 : BitVec 32 := Scalar.muli v6 c1_i32_23
  let v46 : BitVec 32 := Scalar.addi c0_i32_24 v45
  v46.toNat
def k0_off1 (d2 : Dev nD) : Fin 2 → Nat :=
  let c0_i32_27 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c256_i32 : BitVec 32 := 256#32
  let v47 : BitVec 32 := Scalar.muli v4 c256_i32
  ![0, v47.toNat]
def k0_off2 (d2 : Dev nD) : Fin 2 → Nat :=
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c256_i32_26 : BitVec 32 := 256#32
  let v48 : BitVec 32 := Scalar.muli v4 c256_i32_26
  let c0_i32_28 : BitVec 32 := 0#32
  ![v48.toNat, 0]
def k0_off3 (d2 : Dev nD) (c0_i32_31 : BitVec 32) : Fin 2 → Nat :=
  let c0_i32_40 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let v53 : BitVec 32 := Scalar.subi v4 c0_i32_31
  let c16_i32_32 : BitVec 32 := 16#32
  let v54 : BitVec 32 := Scalar.addi v53 c16_i32_32
  let c16_i32_33 : BitVec 32 := 16#32
  let v55 : BitVec 32 := Scalar.remsi v54 c16_i32_33
  let c256_i32_34 : BitVec 32 := 256#32
  let v56 : BitVec 32 := Scalar.muli v55 c256_i32_34
  ![0, v56.toNat]
def k0_dev3 (d2 : Dev nD) : Nat :=
  let c0_i32_39 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_38 : BitVec 32 := 1#32
  let v58 : BitVec 32 := Scalar.muli v6 c1_i32_38
  let v59 : BitVec 32 := Scalar.addi c0_i32_39 v58
  v59.toNat
def k0_off4 (d2 : Dev nD) (c0_i32_31 : BitVec 32) : Fin 2 → Nat :=
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let v53 : BitVec 32 := Scalar.subi v4 c0_i32_31
  let c16_i32_32 : BitVec 32 := 16#32
  let v54 : BitVec 32 := Scalar.addi v53 c16_i32_32
  let c16_i32_33 : BitVec 32 := 16#32
  let v55 : BitVec 32 := Scalar.remsi v54 c16_i32_33
  let c256_i32_35 : BitVec 32 := 256#32
  let v57 : BitVec 32 := Scalar.muli v55 c256_i32_35
  let c0_i32_46 : BitVec 32 := 0#32
  ![v57.toNat, 0]
def k0_dev4 (d2 : Dev nD) : Nat :=
  let c0_i32_45 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_44 : BitVec 32 := 1#32
  let v66 : BitVec 32 := Scalar.muli v6 c1_i32_44
  let v67 : BitVec 32 := Scalar.addi c0_i32_45 v66
  v67.toNat
def k0_off5 (d2 : Dev nD) (c0_i32_48 : BitVec 32) : Fin 2 → Nat :=
  let c0_i32_56 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let v74 : BitVec 32 := Scalar.addi v4 c0_i32_48
  let c16_i32_49 : BitVec 32 := 16#32
  let v75 : BitVec 32 := Scalar.remsi v74 c16_i32_49
  let c256_i32_50 : BitVec 32 := 256#32
  let v76 : BitVec 32 := Scalar.muli v75 c256_i32_50
  ![0, v76.toNat]
def k0_dev5 (d2 : Dev nD) : Nat :=
  let c0_i32_55 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_54 : BitVec 32 := 1#32
  let v78 : BitVec 32 := Scalar.muli v9 c1_i32_54
  let v79 : BitVec 32 := Scalar.addi c0_i32_55 v78
  v79.toNat
def k0_off6 (d2 : Dev nD) (c0_i32_48 : BitVec 32) : Fin 2 → Nat :=
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let v74 : BitVec 32 := Scalar.addi v4 c0_i32_48
  let c16_i32_49 : BitVec 32 := 16#32
  let v75 : BitVec 32 := Scalar.remsi v74 c16_i32_49
  let c256_i32_51 : BitVec 32 := 256#32
  let v77 : BitVec 32 := Scalar.muli v75 c256_i32_51
  let c0_i32_62 : BitVec 32 := 0#32
  ![v77.toNat, 0]
def k0_dev6 (d2 : Dev nD) : Nat :=
  let c0_i32_61 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_60 : BitVec 32 := 1#32
  let v86 : BitVec 32 := Scalar.muli v9 c1_i32_60
  let v87 : BitVec 32 := Scalar.addi c0_i32_61 v86
  v87.toNat
def k0_dev7 (d2 : Dev nD) : Nat :=
  let c0_i32_116 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_115 : BitVec 32 := 1#32
  let v139 : BitVec 32 := Scalar.muli v6 c1_i32_115
  let v140 : BitVec 32 := Scalar.addi c0_i32_116 v139
  v140.toNat
def k0_dev8 (d2 : Dev nD) : Nat :=
  let c0_i32_122 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_121 : BitVec 32 := 1#32
  let v147 : BitVec 32 := Scalar.muli v6 c1_i32_121
  let v148 : BitVec 32 := Scalar.addi c0_i32_122 v147
  v148.toNat
def k0_dev9 (d2 : Dev nD) : Nat :=
  let c0_i32_132 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_131 : BitVec 32 := 1#32
  let v159 : BitVec 32 := Scalar.muli v9 c1_i32_131
  let v160 : BitVec 32 := Scalar.addi c0_i32_132 v159
  v160.toNat
def k0_dev10 (d2 : Dev nD) : Nat :=
  let c0_i32_138 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_137 : BitVec 32 := 1#32
  let v167 : BitVec 32 := Scalar.muli v9 c1_i32_137
  let v168 : BitVec 32 := Scalar.addi c0_i32_138 v167
  v168.toNat
def k0_dev11 (d2 : Dev nD) : Nat :=
  let c0_i32_193 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_192 : BitVec 32 := 1#32
  let v220 : BitVec 32 := Scalar.muli v6 c1_i32_192
  let v221 : BitVec 32 := Scalar.addi c0_i32_193 v220
  v221.toNat
def k0_dev12 (d2 : Dev nD) : Nat :=
  let c0_i32_199 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_198 : BitVec 32 := 1#32
  let v228 : BitVec 32 := Scalar.muli v6 c1_i32_198
  let v229 : BitVec 32 := Scalar.addi c0_i32_199 v228
  v229.toNat
def k0_dev13 (d2 : Dev nD) : Nat :=
  let c0_i32_209 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_208 : BitVec 32 := 1#32
  let v240 : BitVec 32 := Scalar.muli v9 c1_i32_208
  let v241 : BitVec 32 := Scalar.addi c0_i32_209 v240
  v241.toNat
def k0_dev14 (d2 : Dev nD) : Nat :=
  let c0_i32_215 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_214 : BitVec 32 := 1#32
  let v248 : BitVec 32 := Scalar.muli v9 c1_i32_214
  let v249 : BitVec 32 := Scalar.addi c0_i32_215 v248
  v249.toNat
def k0_dev15 (d2 : Dev nD) : Nat :=
  let c0_i32_269 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_268 : BitVec 32 := 1#32
  let v301 : BitVec 32 := Scalar.muli v6 c1_i32_268
  let v302 : BitVec 32 := Scalar.addi c0_i32_269 v301
  v302.toNat
def k0_dev16 (d2 : Dev nD) : Nat :=
  let c0_i32_275 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_274 : BitVec 32 := 1#32
  let v309 : BitVec 32 := Scalar.muli v6 c1_i32_274
  let v310 : BitVec 32 := Scalar.addi c0_i32_275 v309
  v310.toNat
def k0_dev17 (d2 : Dev nD) : Nat :=
  let c0_i32_285 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_284 : BitVec 32 := 1#32
  let v321 : BitVec 32 := Scalar.muli v9 c1_i32_284
  let v322 : BitVec 32 := Scalar.addi c0_i32_285 v321
  v322.toNat
def k0_dev18 (d2 : Dev nD) : Nat :=
  let c0_i32_291 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_290 : BitVec 32 := 1#32
  let v329 : BitVec 32 := Scalar.muli v9 c1_i32_290
  let v330 : BitVec 32 := Scalar.addi c0_i32_291 v329
  v330.toNat
def k0_dev19 (d2 : Dev nD) : Nat :=
  let c0_i32_345 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_344 : BitVec 32 := 1#32
  let v382 : BitVec 32 := Scalar.muli v6 c1_i32_344
  let v383 : BitVec 32 := Scalar.addi c0_i32_345 v382
  v383.toNat
def k0_dev20 (d2 : Dev nD) : Nat :=
  let c0_i32_351 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_350 : BitVec 32 := 1#32
  let v390 : BitVec 32 := Scalar.muli v6 c1_i32_350
  let v391 : BitVec 32 := Scalar.addi c0_i32_351 v390
  v391.toNat
def k0_dev21 (d2 : Dev nD) : Nat :=
  let c0_i32_361 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_360 : BitVec 32 := 1#32
  let v402 : BitVec 32 := Scalar.muli v9 c1_i32_360
  let v403 : BitVec 32 := Scalar.addi c0_i32_361 v402
  v403.toNat
def k0_dev22 (d2 : Dev nD) : Nat :=
  let c0_i32_367 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_366 : BitVec 32 := 1#32
  let v410 : BitVec 32 := Scalar.muli v9 c1_i32_366
  let v411 : BitVec 32 := Scalar.addi c0_i32_367 v410
  v411.toNat
def k0_dev23 (d2 : Dev nD) : Nat :=
  let c0_i32_421 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_420 : BitVec 32 := 1#32
  let v463 : BitVec 32 := Scalar.muli v6 c1_i32_420
  let v464 : BitVec 32 := Scalar.addi c0_i32_421 v463
  v464.toNat
def k0_dev24 (d2 : Dev nD) : Nat :=
  let c0_i32_427 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_426 : BitVec 32 := 1#32
  let v471 : BitVec 32 := Scalar.muli v6 c1_i32_426
  let v472 : BitVec 32 := Scalar.addi c0_i32_427 v471
  v472.toNat
def k0_dev25 (d2 : Dev nD) : Nat :=
  let c0_i32_437 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_436 : BitVec 32 := 1#32
  let v483 : BitVec 32 := Scalar.muli v9 c1_i32_436
  let v484 : BitVec 32 := Scalar.addi c0_i32_437 v483
  v484.toNat
def k0_dev26 (d2 : Dev nD) : Nat :=
  let c0_i32_443 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_442 : BitVec 32 := 1#32
  let v491 : BitVec 32 := Scalar.muli v9 c1_i32_442
  let v492 : BitVec 32 := Scalar.addi c0_i32_443 v491
  v492.toNat
def k0_dev27 (d2 : Dev nD) : Nat :=
  let c0_i32_497 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_496 : BitVec 32 := 1#32
  let v544 : BitVec 32 := Scalar.muli v6 c1_i32_496
  let v545 : BitVec 32 := Scalar.addi c0_i32_497 v544
  v545.toNat
def k0_dev28 (d2 : Dev nD) : Nat :=
  let c0_i32_503 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_502 : BitVec 32 := 1#32
  let v552 : BitVec 32 := Scalar.muli v6 c1_i32_502
  let v553 : BitVec 32 := Scalar.addi c0_i32_503 v552
  v553.toNat
def k0_dev29 (d2 : Dev nD) : Nat :=
  let c0_i32_513 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_512 : BitVec 32 := 1#32
  let v564 : BitVec 32 := Scalar.muli v9 c1_i32_512
  let v565 : BitVec 32 := Scalar.addi c0_i32_513 v564
  v565.toNat
def k0_dev30 (d2 : Dev nD) : Nat :=
  let c0_i32_519 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c16_i32_2 : BitVec 32 := 16#32
  let v7 : BitVec 32 := Scalar.addi v4 c16_i32_2
  let c1_i32_3 : BitVec 32 := 1#32
  let v8 : BitVec 32 := Scalar.subi v7 c1_i32_3
  let c16_i32_4 : BitVec 32 := 16#32
  let v9 : BitVec 32 := Scalar.remsi v8 c16_i32_4
  let c1_i32_518 : BitVec 32 := 1#32
  let v572 : BitVec 32 := Scalar.muli v9 c1_i32_518
  let v573 : BitVec 32 := Scalar.addi c0_i32_519 v572
  v573.toNat
def k0_dev31 (d2 : Dev nD) : Nat :=
  let c0_i32_573 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_572 : BitVec 32 := 1#32
  let v625 : BitVec 32 := Scalar.muli v6 c1_i32_572
  let v626 : BitVec 32 := Scalar.addi c0_i32_573 v625
  v626.toNat
def k0_dev32 (d2 : Dev nD) : Nat :=
  let c0_i32_579 : BitVec 32 := 0#32
  let v2 : BitVec 32 := Dev.word d2
  let c1_i32 : BitVec 32 := 1#32
  let v3 : BitVec 32 := Scalar.divsi v2 c1_i32
  let c16_i32 : BitVec 32 := 16#32
  let v4 : BitVec 32 := Scalar.remsi v3 c16_i32
  let c1_i32_0 : BitVec 32 := 1#32
  let v5 : BitVec 32 := Scalar.addi v4 c1_i32_0
  let c16_i32_1 : BitVec 32 := 16#32
  let v6 : BitVec 32 := Scalar.remsi v5 c16_i32_1
  let c1_i32_578 : BitVec 32 := 1#32
  let v633 : BitVec 32 := Scalar.muli v6 c1_i32_578
  let v634 : BitVec 32 := Scalar.addi c0_i32_579 v633
  v634.toNat
def k0_cond2 (i : grid0.Coords) : BitVec 1 :=
  let arg1 : BitVec 32 := BitVec.ofNat 32 (i 1).val
  let c0_i32_6 : BitVec 32 := 0#32
  let v14 : BitVec 1 := Scalar.cmpi .eq arg1 c0_i32_6
  let v15 : BitVec 32 := Scalar.extui v14
  let c0_i32_7 : BitVec 32 := 0#32
  let v16 : BitVec 1 := Scalar.cmpi .ne v15 c0_i32_7
  v16

def k0_cond4 (i : grid0.Coords) : BitVec 1 :=
  let arg0 : BitVec 32 := BitVec.ofNat 32 (i 0).val
  let c0_i32_21 : BitVec 32 := 0#32
  let v45 : BitVec 1 := Scalar.cmpi .sgt arg0 c0_i32_21
  let v46 : BitVec 32 := Scalar.extui v45
  let c0_i32_22 : BitVec 32 := 0#32
  let v47 : BitVec 1 := Scalar.cmpi .ne v46 c0_i32_22
  v47

def k0_off7 (i : grid0.Coords) : Fin 3 → Nat :=
  let arg0 : BitVec 32 := BitVec.ofNat 32 (i 0).val
  let c2_i32 : BitVec 32 := 2#32
  let v13 : BitVec 32 := Scalar.remsi arg0 c2_i32
  let c0_i32_24 : BitVec 32 := 0#32
  let c0_i32_25 : BitVec 32 := 0#32
  ![v13.toNat, 0, 0]
def k0_off8 (i : grid0.Coords) : Fin 2 → Nat :=
  let c0_i32_26 : BitVec 32 := 0#32
  let arg0 : BitVec 32 := BitVec.ofNat 32 (i 0).val
  let c1024_i32 : BitVec 32 := 1024#32
  let v51 : BitVec 32 := Scalar.muli arg0 c1024_i32
  ![0, v51.toNat]
def k0_cond5 (i : grid0.Coords) : BitVec 1 :=
  let arg0 : BitVec 32 := BitVec.ofNat 32 (i 0).val
  let c7_i32 : BitVec 32 := 7#32
  let v48 : BitVec 1 := Scalar.cmpi .slt arg0 c7_i32
  let v49 : BitVec 32 := Scalar.extui v48
  let c0_i32_23 : BitVec 32 := 0#32
  let v50 : BitVec 1 := Scalar.cmpi .ne v49 c0_i32_23
  v50

def k0_off9 (i : grid0.Coords) : Fin 3 → Nat :=
  let arg0 : BitVec 32 := BitVec.ofNat 32 (i 0).val
  let c1_i32_25 : BitVec 32 := 1#32
  let v53 : BitVec 32 := Scalar.addi arg0 c1_i32_25
  let c2_i32_26 : BitVec 32 := 2#32
  let v54 : BitVec 32 := Scalar.remsi v53 c2_i32_26
  let c0_i32_27 : BitVec 32 := 0#32
  let c0_i32_28 : BitVec 32 := 0#32
  ![v54.toNat, 0, 0]
def k0_off10 (i : grid0.Coords) : Fin 2 → Nat :=
  let c0_i32_29 : BitVec 32 := 0#32
  let arg0 : BitVec 32 := BitVec.ofNat 32 (i 0).val
  let c1_i32_24 : BitVec 32 := 1#32
  let v51 : BitVec 32 := Scalar.addi arg0 c1_i32_24
  let c1024_i32 : BitVec 32 := 1024#32
  let v52 : BitVec 32 := Scalar.muli v51 c1024_i32
  ![0, v52.toNat]
def k0_off11 (i : grid0.Coords) : Fin 2 → Nat :=
  let arg1 : BitVec 32 := BitVec.ofNat 32 (i 1).val
  let c512_i32 : BitVec 32 := 512#32
  let v17 : BitVec 32 := Scalar.muli arg1 c512_i32
  let v18 : Index := Scalar.indexCast v17
  let c0 : Index := 0#32
  ![v18.toNat, 0]
def k0_off12 (i : grid0.Coords) : Fin 3 → Nat :=
  let arg0 : BitVec 32 := BitVec.ofNat 32 (i 0).val
  let c2_i32 : BitVec 32 := 2#32
  let v13 : BitVec 32 := Scalar.remsi arg0 c2_i32
  let v20 : Index := Scalar.indexCast v13
  let c0_8 : Index := 0#32
  let c0_9 : Index := 0#32
  ![v20.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Text.lean ====
/-
  The gather of the kernel as a short program. The printed body is one straight line of copies and waits cut into
  parts; here the same operations are named (a copy to a neighbour, a wait) and grouped into hops, and the printed
  gather is shown to be that program by unfolding both.
-/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Ag

open Cert.KernelIdeal Cert.KernelIdeal.Gen
open Idealize.ShloMosaic Idealize.SL.Sem

variable {F : FTy → Type} [FloatOps F]

/-- Programs of the kernel's TensorCore. -/
abbrev Pg (F : FTy → Type) (α : Type) := Prog (TpuEff nD τ sig (Elt F) Λ₀ .tc) α

/-- A column strip of the gathered activation, at offsets `o`. -/
abbrev xView (o : Fin 2 → Nat) (hi : ∀ a, o a + S4096x256.size a ≤ S4096x4096.size a) : Memref sig .tc .vmem S4096x256 .fp8e4m3 :=
  (Memref.whole cc0_scratch0).slice (Rect.unit (s := S4096x4096) o S4096x256.size hi) (fun _ => rfl)

/-- A row strip of the gathered weight, at offsets `o`. -/
abbrev wView (o : Fin 2 → Nat) (hi : ∀ a, o a + S256x8192.size a ≤ S4096x8192.size a) : Memref sig .tc .hbm S256x8192 .fp8e4m3 :=
  (Memref.whole main_v1_1).slice (Rect.unit (s := S4096x8192) o S256x8192.size hi) (fun _ => rfl)

section Ops

variable (o : Fin 2 → Nat)

/-- Send the activation strip at `o` to the same strip of device `n`: `s` here and `r` there count it. -/
def xSend (hi : ∀ a, o a + S4096x256.size a ≤ S4096x4096.size a)
    (hw : (Rect.unit (s := S4096x4096) o S4096x256.size hi).WholeWords (EltTy.packing .fp8e4m3)) (n : Dev nD) (s r : DmaSem sig) : Pg F PUnit :=
  Prog.lift (.enqueueDma (xView o hi) (.remote (Dev.tc n) (xView o hi) (.dma s)) (.dma r)
    ((Memref.isWhole_whole _).wordExact_slice rfl _ hw) ((Memref.isWhole_whole _).wordExact_slice rfl _ hw) ⟨⟨rfl, Or.inl rfl⟩, trivial⟩)

/-- Send the weight strip at `o` to the same strip of device `n`. -/
def wSend (hi : ∀ a, o a + S256x8192.size a ≤ S4096x8192.size a)
    (hw : (Rect.unit (s := S4096x8192) o S256x8192.size hi).WholeWords (EltTy.packing .fp8e4m3)) (n : Dev nD) (s r : DmaSem sig) : Pg F PUnit :=
  Prog.lift (.enqueueDma (wView o hi) (.remote (Dev.tc n) (wView o hi) (.dma s)) (.dma r)
    ((Memref.isWhole_whole _).wordExact_slice rfl _ hw) ((Memref.isWhole_whole _).wordExact_slice rfl _ hw) ⟨⟨rfl, Or.inl rfl⟩, trivial⟩)

/-- Wait on `s` for one activation strip. -/
def xWait (hi : ∀ a, o a + S4096x256.size a ≤ S4096x4096.size a)
    (hw : (Rect.unit (s := S4096x4096) o S4096x256.size hi).WholeWords (EltTy.packing .fp8e4m3)) (s : DmaSem sig) : Pg F PUnit :=
  Prog.lift (.waitDma2 s (xView o hi) (xView o hi)
    ((Memref.isWhole_whole _).wordExact_slice rfl _ hw) ((Memref.isWhole_whole _).wordExact_slice rfl _ hw))

/-- Wait on `s` for one weight strip. -/
def wWait (hi : ∀ a, o a + S256x8192.size a ≤ S4096x8192.size a)
    (hw : (Rect.unit (s := S4096x8192) o S256x8192.size hi).WholeWords (EltTy.packing .fp8e4m3)) (s : DmaSem sig) : Pg F PUnit :=
  Prog.lift (.waitDma2 s (wView o hi) (wView o hi)
    ((Memref.isWhole_whole _).wordExact_slice rfl _ hw) ((Memref.isWhole_whole _).wordExact_slice rfl _ hw))

/-- Start the local copy of the device's own activation block, staged in the first window, into the strip at `o`. -/
def xCopy (hi : ∀ a, o a + S4096x256.size a ≤ S4096x4096.size a)
    (hw : (Rect.unit (s := S4096x4096) o S4096x256.size hi).WholeWords (EltTy.packing .fp8e4m3))
    (arg2 : Memref sig .tc .vmem S4096x256 .fp8e4m3) (harg2 : arg2.IsWhole) (s : DmaSem sig) : Pg F PUnit :=
  Prog.lift (.enqueueDma arg2 (.here (xView o hi)) (.dma s) harg2.wordExact ((Memref.isWhole_whole _).wordExact_slice rfl _ hw) ⟨Or.inl rfl, trivial⟩)

/-- Start the local copy of the device's own weight block, staged in the second window, into the strip at `o`. -/
def wCopy (hi : ∀ a, o a + S256x8192.size a ≤ S4096x8192.size a)
    (hw : (Rect.unit (s := S4096x8192) o S256x8192.size hi).WholeWords (EltTy.packing .fp8e4m3))
    (arg3 : Memref sig .tc .vmem S256x8192 .fp8e4m3) (harg3 : arg3.IsWhole) (s : DmaSem sig) : Pg F PUnit :=
  Prog.lift (.enqueueDma arg3 (.here (wView o hi)) (.dma s) harg3.wordExact ((Memref.isWhole_whole _).wordExact_slice rfl _ hw) ⟨Or.inl rfl, trivial⟩)

/-- Wait for the local activation copy. -/
def xCopied (hi : ∀ a, o a + S4096x256.size a ≤ S4096x4096.size a)
    (hw : (Rect.unit (s := S4096x4096) o S4096x256.size hi).WholeWords (EltTy.packing .fp8e4m3))
    (arg2 : Memref sig .tc .vmem S4096x256 .fp8e4m3) (harg2 : arg2.IsWhole) (s : DmaSem sig) : Pg F PUnit :=
  Prog.lift (.waitDma2 s arg2 (xView o hi) harg2.wordExact ((Memref.isWhole_whole _).wordExact_slice rfl _ hw))

/-- Wait for the local weight copy. -/
def wCopied (hi : ∀ a, o a + S256x8192.size a ≤ S4096x8192.size a)
    (hw : (Rect.unit (s := S4096x8192) o S256x8192.size hi).WholeWords (EltTy.packing .fp8e4m3))
    (arg3 : Memref sig .tc .vmem S256x8192 .fp8e4m3) (harg3 : arg3.IsWhole) (s : DmaSem sig) : Pg F PUnit :=
  Prog.lift (.waitDma2 s arg3 (wView o hi) harg3.wordExact ((Memref.isWhole_whole _).wordExact_slice rfl _ hw))

end Ops

/-- The `k`-th semaphore of an array of eight, and of an array of seven, as the kernel names it. -/
def at8 (a : DmaSems sig S8) (k : Fin 8) : DmaSem sig :=
  ((a.slice (Rect.unit (s := S8) ![k.val] S1.size (by revert k; decide)) : DmaSems sig S1).squeeze S_ squeezes_S1_S_).sem
def at7 (a : DmaSems sig S7) (k : Fin 7) : DmaSem sig :=
  ((a.slice (Rect.unit (s := S7) ![k.val] S1.size (by revert k; decide)) : DmaSems sig S1).squeeze S_ squeezes_S1_S_).sem

section Hops

variable (i : grid0.Coords) (hc : k0_cond1 i = 1#1) (c : Dev nD)

/-- One copy of the right-going chain: hop `h`, activation or weight, to `n`. -/
def rX (h : Fin 8) (n : Dev nD) : Pg F PUnit :=
  xSend (k0_off3 c (BitVec.ofNat 32 h.val)) (k0_off3_inb i c hc h) (k0_off3_wordsfp8e4m3 i c hc h) n (at8 cc0_scratch6 h) (at8 cc0_scratch7 h)
def rW (h : Fin 8) (n : Dev nD) : Pg F PUnit :=
  wSend (k0_off4 c (BitVec.ofNat 32 h.val)) (k0_off4_inb i c hc h) (k0_off4_wordsfp8e4m3 i c hc h) n (at8 cc0_scratch8 h) (at8 cc0_scratch9 h)
/-- One copy of the left-going chain. -/
def lX (h : Fin 7) (n : Dev nD) : Pg F PUnit :=
  xSend (k0_off5 c (BitVec.ofNat 32 h.val)) (k0_off5_inb i c hc h) (k0_off5_wordsfp8e4m3 i c hc h) n (at7 cc0_scratch10 h) (at7 cc0_scratch11 h)
def lW (h : Fin 7) (n : Dev nD) : Pg F PUnit :=
  wSend (k0_off6 c (BitVec.ofNat 32 h.val)) (k0_off6_inb i c hc h) (k0_off6_wordsfp8e4m3 i c hc h) n (at7 cc0_scratch12 h) (at7 cc0_scratch13 h)

/-- The four waits that end hop `h` of the right-going chain. -/
def rWaits (h : Fin 8) : Pg F PUnit := do
  xWait (k0_off3 c (BitVec.ofNat 32 h.val)) (k0_off3_inb i c hc h) (k0_off3_wordsfp8e4m3 i c hc h) (at8 cc0_scratch6 h)
  xWait (k0_off3 c (BitVec.ofNat 32 h.val)) (k0_off3_inb i c hc h) (k0_off3_wordsfp8e4m3 i c hc h) (at8 cc0_scratch7 h)
  wWait (k0_off4 c (BitVec.ofNat 32 h.val)) (k0_off4_inb i c hc h) (k0_off4_wordsfp8e4m3 i c hc h) (at8 cc0_scratch8 h)
  wWait (k0_off4 c (BitVec.ofNat 32 h.val)) (k0_off4_inb i c hc h) (k0_off4_wordsfp8e4m3 i c hc h) (at8 cc0_scratch9 h)

/-- The four waits that end hop `h` of the left-going chain. -/
def lWaits (h : Fin 7) : Pg F PUnit := do
  xWait (k0_off5 c (BitVec.ofNat 32 h.val)) (k0_off5_inb i c hc h) (k0_off5_wordsfp8e4m3 i c hc h) (at7 cc0_scratch10 h)
  xWait (k0_off5 c (BitVec.ofNat 32 h.val)) (k0_off5_inb i c hc h) (k0_off5_wordsfp8e4m3 i c hc h) (at7 cc0_scratch11 h)
  wWait (k0_off6 c (BitVec.ofNat 32 h.val)) (k0_off6_inb i c hc h) (k0_off6_wordsfp8e4m3 i c hc h) (at7 cc0_scratch12 h)
  wWait (k0_off6 c (BitVec.ofNat 32 h.val)) (k0_off6_inb i c hc h) (k0_off6_wordsfp8e4m3 i c hc h) (at7 cc0_scratch13 h)

/-- One full hop: both chains start, then the left-going one ends, then the right-going one. -/
def hop (h : Fin 7) (n₁ n₂ n₃ n₄ : Dev nD) : Pg F PUnit := do
  rX i hc c h.castSucc n₁
  rW i hc c h.castSucc n₂
  lX i hc c h n₃
  lW i hc c h n₄
  lWaits i hc c h
  rWaits i hc c h.castSucc

/-- The last hop: the right-going chain alone. -/
def lastHop (n₁ n₂ : Dev nD) : Pg F PUnit := do
  rX i hc c 7 n₁
  rW i hc c 7 n₂
  rWaits i hc c 7

/-- The barrier with both neighbours. -/
def meet (n₁ n₂ : Dev nD) : Pg F PUnit := do
  semSignalWord n₁ (SemArray.scalar (sig.barrier 0 rfl) : Sems sig S_).sem 1#32
  semSignalWord n₂ (SemArray.scalar (sig.barrier 0 rfl) : Sems sig S_).sem 1#32
  semWaitWord (SemArray.scalar (sig.barrier 0 rfl) : Sems sig S_).sem 2#32

/-- The device's own two blocks, copied into their strips. -/
def own (arg2 : Memref sig .tc .vmem S4096x256 .fp8e4m3) (harg2 : arg2.IsWhole) (arg3 : Memref sig .tc .vmem S256x8192 .fp8e4m3) (harg3 : arg3.IsWhole) :
    Pg F PUnit := do
  xCopy (k0_off1 c) (k0_off1_inb i c hc) (k0_off1_wordsfp8e4m3 i c hc) arg2 harg2 cc0_scratch2.sem
  wCopy (k0_off2 c) (k0_off2_inb i c hc) (k0_off2_wordsfp8e4m3 i c hc) arg3 harg3 cc0_scratch3.sem
  xCopied (k0_off1 c) (k0_off1_inb i c hc) (k0_off1_wordsfp8e4m3 i c hc) arg2 harg2 cc0_scratch2.sem
  wCopied (k0_off2 c) (k0_off2_inb i c hc) (k0_off2_wordsfp8e4m3 i c hc) arg3 harg3 cc0_scratch3.sem

/-- The whole gather, with the neighbours as the kernel computes them. -/
def gather (arg2 : Memref sig .tc .vmem S4096x256 .fp8e4m3) (harg2 : arg2.IsWhole) (arg3 : Memref sig .tc .vmem S256x8192 .fp8e4m3) (harg3 : arg3.IsWhole) :
    Pg F PUnit := do
  meet ⟨k0_dev1 c, k0_dev1_lt i c hc⟩ ⟨k0_dev2 c, k0_dev2_lt i c hc⟩
  own i hc c arg2 harg2 arg3 harg3
  hop i hc c 0 ⟨k0_dev3 c, k0_dev3_lt i c hc⟩ ⟨k0_dev4 c, k0_dev4_lt i c hc⟩ ⟨k0_dev5 c, k0_dev5_lt i c hc⟩ ⟨k0_dev6 c, k0_dev6_lt i c hc⟩
  hop i hc c 1 ⟨k0_dev7 c, k0_dev7_lt i c hc⟩ ⟨k0_dev8 c, k0_dev8_lt i c hc⟩ ⟨k0_dev9 c, k0_dev9_lt i c hc⟩ ⟨k0_dev10 c, k0_dev10_lt i c hc⟩
  hop i hc c 2 ⟨k0_dev11 c, k0_dev11_lt i c hc⟩ ⟨k0_dev12 c, k0_dev12_lt i c hc⟩ ⟨k0_dev13 c, k0_dev13_lt i c hc⟩ ⟨k0_dev14 c, k0_dev14_lt i c hc⟩
  hop i hc c 3 ⟨k0_dev15 c, k0_dev15_lt i c hc⟩ ⟨k0_dev16 c, k0_dev16_lt i c hc⟩ ⟨k0_dev17 c, k0_dev17_lt i c hc⟩ ⟨k0_dev18 c, k0_dev18_lt i c hc⟩
  hop i hc c 4 ⟨k0_dev19 c, k0_dev19_lt i c hc⟩ ⟨k0_dev20 c, k0_dev20_lt i c hc⟩ ⟨k0_dev21 c, k0_dev21_lt i c hc⟩ ⟨k0_dev22 c, k0_dev22_lt i c hc⟩
  hop i hc c 5 ⟨k0_dev23 c, k0_dev23_lt i c hc⟩ ⟨k0_dev24 c, k0_dev24_lt i c hc⟩ ⟨k0_dev25 c, k0_dev25_lt i c hc⟩ ⟨k0_dev26 c, k0_dev26_lt i c hc⟩
  hop i hc c 6 ⟨k0_dev27 c, k0_dev27_lt i c hc⟩ ⟨k0_dev28 c, k0_dev28_lt i c hc⟩ ⟨k0_dev29 c, k0_dev29_lt i c hc⟩ ⟨k0_dev30 c, k0_dev30_lt i c hc⟩
  lastHop i hc c ⟨k0_dev31 c, k0_dev31_lt i c hc⟩ ⟨k0_dev32 c, k0_dev32_lt i c hc⟩

end Hops

/-! ## The staging of a weight block and the block product -/

/-- One of the two staging slots for a weight block, at offsets `o`. -/
abbrev sView (o : Fin 3 → Nat) (hi : ∀ a, o a + S1x4096x1024.size a ≤ S2x4096x1024.size a) : Memref sig .tc .vmem S4096x1024 .fp8e4m3 :=
  ((Memref.whole cc0_scratch1).slice (Rect.unit (s := S2x4096x1024) o S1x4096x1024.size hi) (fun _ => rfl) : Memref sig .tc .vmem S1x4096x1024 .fp8e4m3).squeeze
    S4096x1024 squeezes_S1x4096x1024_S4096x1024

/-- A column block of the gathered weight, at offsets `o`. -/
abbrev bView (o : Fin 2 → Nat) (hi : ∀ a, o a + S4096x1024.size a ≤ S4096x8192.size a) : Memref sig .tc .hbm S4096x1024 .fp8e4m3 :=
  (Memref.whole main_v1_1).slice (Rect.unit (s := S4096x8192) o S4096x1024.size hi) (fun _ => rfl)

section Stage

variable (o : Fin 2 → Nat) (hi : ∀ a, o a + S4096x1024.size a ≤ S4096x8192.size a)
  (hw : (Rect.unit (s := S4096x8192) o S4096x1024.size hi).WholeWords (EltTy.packing .fp8e4m3))
  (o' : Fin 3 → Nat) (hi' : ∀ a, o' a + S1x4096x1024.size a ≤ S2x4096x1024.size a)
  (hw' : (Rect.unit (s := S2x4096x1024) o' S1x4096x1024.size hi').WholeWords (EltTy.packing .fp8e4m3)) (s : DmaSem sig)

/-- Start the copy of the weight block at `o` into the slot at `o'`. -/
def bCopy : Pg F PUnit :=
  Prog.lift (.enqueueDma (bView o hi) (.here (sView o' hi')) (.dma s) ((Memref.isWhole_whole _).wordExact_slice rfl _ hw)
    (((Memref.isWhole_whole _).wordExact_slice rfl _ hw').reshape _ _) ⟨Or.inl rfl, trivial⟩)

/-- Wait for that copy. -/
def bCopied : Pg F PUnit :=
  Prog.lift (.waitDma2 s (bView o hi) (sView o' hi') ((Memref.isWhole_whole _).wordExact_slice rfl _ hw)
    (((Memref.isWhole_whole _).wordExact_slice rfl _ hw').reshape _ _))

end Stage

/-- Whether the point is in the first block of columns, as the kernel tests it. -/
def cond3 (i : grid0.Coords) : BitVec 1 :=
  Scalar.cmpi .ne (Scalar.extui (Scalar.cmpi .eq (BitVec.ofNat 32 (i 0).val) (0#32)) : BitVec 32) 0#32

/-- The first block: copied and awaited at once. -/
def firstBlock : Pg F PUnit := do
  bCopy ![0, 0] inb_S4096x8192_S4096x1024_0_0 wordsfp8e4m3_S4096x8192_S4096x1024_0_0 ![0, 0, 0] inb_S2x4096x1024_S1x4096x1024_0_0_0
    wordsfp8e4m3_S2x4096x1024_S1x4096x1024_0_0_0 cc0_scratch4.sem
  bCopied ![0, 0] inb_S4096x8192_S4096x1024_0_0 wordsfp8e4m3_S4096x8192_S4096x1024_0_0 ![0, 0, 0] inb_S2x4096x1024_S1x4096x1024_0_0_0
    wordsfp8e4m3_S2x4096x1024_S1x4096x1024_0_0_0 cc0_scratch4.sem

/-- A later block: its copy, started one block earlier, is awaited. -/
def thisBlock (i : grid0.Coords) (h2 : k0_cond2 i = 1#1) (h4 : k0_cond4 i = 1#1) : Pg F PUnit :=
  bCopied (k0_off8 i) (k0_off8_inb i h2 h4) (k0_off8_wordsfp8e4m3 i h2 h4) (k0_off7 i) (k0_off7_inb i h2 h4) (k0_off7_wordsfp8e4m3 i h2 h4)
    cc0_scratch5.sem

/-- The next block's copy is started. -/
def nextBlock (i : grid0.Coords) (h2 : k0_cond2 i = 1#1) (h5 : k0_cond5 i = 1#1) : Pg F PUnit :=
  bCopy (k0_off10 i) (k0_off10_inb i h2 h5) (k0_off10_wordsfp8e4m3 i h2 h5) (k0_off9 i) (k0_off9_inb i h2 h5) (k0_off9_wordsfp8e4m3 i h2 h5)
    cc0_scratch5.sem

/-- The first point of a block of columns: the block is brought in, or its copy awaited, and the next one is started. -/
def stage (i : grid0.Coords) (h2 : k0_cond2 i = 1#1) : Pg F PUnit :=
  (if _h3 : cond3 i = 1#1 then firstBlock else pure ⟨⟩) >>= fun _ =>
    (if h4 : k0_cond4 i = 1#1 then thisBlock i h2 h4 else pure ⟨⟩) >>= fun _ =>
      (if h5 : k0_cond5 i = 1#1 then nextBlock i h2 h5 else pure ⟨⟩)

/-- What the block product reads: rows of the gathered activation, the staged block, and the two scales. -/
def operands (i : grid0.Coords) (arg4 : Memref sig .tc .smem S1 .f32) (arg5 : Memref sig .tc .smem S1 .f32) :
    Pg F (Σ' (_ : FVec F S512x1024 .f32), FVec F S512x1024 .f32) := do
  let v19 : Vec F S512x4096 .fp8e4m3 ← Prog.lift (.load (Memref.whole cc0_scratch0) (Rect.unit (s := S4096x4096) (k0_off11 i) S512x4096.size (k0_off11_inb i)).toLoadRect (View.loadsAt_vmem h_S512x4096))
  let v21 : Vec F S1x4096x1024 .fp8e4m3 ← Prog.lift (.load (Memref.whole cc0_scratch1) (Rect.unit (s := S2x4096x1024) (k0_off12 i) S1x4096x1024.size (k0_off12_inb i)).toLoadRect (View.loadsAt_vmem h_S1x4096x1024))
  let v24 : Elt F .f32 ← smemLoad arg4 (Rect.unit (s := S1) ![0] S1.size inb_S1_S1_0) numel1_S1 rfl
  let v25 : Elt F .f32 ← smemLoad arg5 (Rect.unit (s := S1) ![0] S1.size inb_S1_S1_0) numel1_S1 rfl
  pure ⟨k0_pay2 v19 v21 v24 v25, k0_pay3 v19 v21 v24 v25⟩

/-- What it writes. -/
def result (arg6 : Memref sig .tc .vmem S512x1024 .f32) (p : Σ' (_ : FVec F S512x1024 .f32), FVec F S512x1024 .f32) : Pg F PUnit := do
  let _ : Vec F S512x1024 .f32 ← Prog.lift (.load arg6 (Rect.unit (s := S512x1024) ![0, 0] S512x1024.size inb_S512x1024_S512x1024_0_0).toLoadRect (View.loadsAt_vmem h_S512x1024))
  Prog.lift (.store arg6 (Rect.unit (s := S512x1024) ![0, 0] S512x1024.size inb_S512x1024_S512x1024_0_0) (k0_pay1 p.1 p.2) Finset.univ (View.stores_vmem_bits_univ h_S512x1024 rfl) (.inl rfl))

/-- The body in the shape it is printed in: each branch runs on into what follows it. -/
def flat (i : grid0.Coords) (arg2 : Memref sig .tc .vmem S4096x256 .fp8e4m3) (harg2 : arg2.IsWhole) (arg3 : Memref sig .tc .vmem S256x8192 .fp8e4m3) (harg3 : arg3.IsWhole)
    (arg4 : Memref sig .tc .smem S1 .f32) (arg5 : Memref sig .tc .smem S1 .f32) : Pg F (Σ' (_ : FVec F S512x1024 .f32), FVec F S512x1024 .f32) := do
  let c : Dev nD ← Prog.lift .deviceId
  if hc : k0_cond1 i = 1#1 then gather i hc c arg2 harg2 arg3 harg3 else pure ⟨⟩
  if h2 : k0_cond2 i = 1#1 then do
    if _h3 : cond3 i = 1#1 then do
      firstBlock
      pure ⟨⟩
    else do pure ⟨⟩
    if h4 : k0_cond4 i = 1#1 then do
      thisBlock i h2 h4
      pure ⟨⟩
    else do pure ⟨⟩
    if h5 : k0_cond5 i = 1#1 then do
      nextBlock i h2 h5
      pure ⟨⟩
    else do pure ⟨⟩
    pure ⟨⟩
  else do pure ⟨⟩
  operands i arg4 arg5

/-- The body as its four steps one after another. -/
def body (i : grid0.Coords) (arg2 : Memref sig .tc .vmem S4096x256 .fp8e4m3) (harg2 : arg2.IsWhole) (arg3 : Memref sig .tc .vmem S256x8192 .fp8e4m3) (harg3 : arg3.IsWhole)
    (arg4 : Memref sig .tc .smem S1 .f32) (arg5 : Memref sig .tc .smem S1 .f32) (arg6 : Memref sig .tc .vmem S512x1024 .f32) : Pg F PUnit :=
  (Prog.lift .deviceId : Pg F (Dev nD)) >>= fun c =>
    (if hc : k0_cond1 i = 1#1 then gather i hc c arg2 harg2 arg3 harg3 else pure ⟨⟩) >>= fun _ =>
      (if h2 : k0_cond2 i = 1#1 then stage i h2 else pure ⟨⟩) >>= fun _ =>
        operands i arg4 arg5 >>= result arg6

/-- The two shapes run the same. -/
theorem flat_eq (i : grid0.Coords) (arg2 : Memref sig .tc .vmem S4096x256 .fp8e4m3) (harg2 : arg2.IsWhole) (arg3 : Memref sig .tc .vmem S256x8192 .fp8e4m3) (harg3 : arg3.IsWhole)
    (arg4 : Memref sig .tc .smem S1 .f32) (arg5 : Memref sig .tc .smem S1 .f32) (arg6 : Memref sig .tc .vmem S512x1024 .f32) :
    (flat (F := F) i arg2 harg2 arg3 harg3 arg4 arg5 >>= result arg6) = body i arg2 harg2 arg3 harg3 arg4 arg5 arg6 := by
  unfold flat body stage
  rw [bind_assoc]
  refine congrArg _ (funext fun c => ?_)
  by_cases hc : k0_cond1 i = 1#1 <;> by_cases h2 : k0_cond2 i = 1#1 <;> by_cases h3 : cond3 i = 1#1 <;> by_cases h4 : k0_cond4 i = 1#1 <;>
    by_cases h5 : k0_cond5 i = 1#1 <;>
    simp only [hc, h2, h3, h4, h5, dif_pos, dif_neg, not_false_eq_true, bind_assoc, pure_bind, dite_true, dite_false, reduceDIte]

set_option maxRecDepth 65536 in
/-- The printed body is that program. -/
theorem printed_eq (i : grid0.Coords) (arg2 : Memref sig .tc .vmem S4096x256 .fp8e4m3) (harg2 : arg2.IsWhole) (arg3 : Memref sig .tc .vmem S256x8192 .fp8e4m3) (harg3 : arg3.IsWhole)
    (arg4 : Memref sig .tc .smem S1 .f32) (harg4 : arg4.IsWhole) (arg5 : Memref sig .tc .smem S1 .f32) (harg5 : arg5.IsWhole)
    (arg6 : Memref sig .tc .vmem S512x1024 .f32) (harg6 : arg6.IsWhole) :
    cc0_body (F := F) i arg2 harg2 arg3 harg3 arg4 harg4 arg5 harg5 arg6 harg6 (Memref.whole main_v1_1) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7 cc0_scratch8 cc0_scratch9 cc0_scratch10 cc0_scratch11 cc0_scratch12 cc0_scratch13
      = flat i arg2 harg2 arg3 harg3 arg4 arg5 >>= result arg6 := by
  chain_rfl

/-- The printed body is its four steps one after another. -/
theorem body_eq (i : grid0.Coords) (arg2 : Memref sig .tc .vmem S4096x256 .fp8e4m3) (harg2 : arg2.IsWhole) (arg3 : Memref sig .tc .vmem S256x8192 .fp8e4m3) (harg3 : arg3.IsWhole)
    (arg4 : Memref sig .tc .smem S1 .f32) (harg4 : arg4.IsWhole) (arg5 : Memref sig .tc .smem S1 .f32) (harg5 : arg5.IsWhole)
    (arg6 : Memref sig .tc .vmem S512x1024 .f32) (harg6 : arg6.IsWhole) :
    cc0_body (F := F) i arg2 harg2 arg3 harg3 arg4 harg4 arg5 harg5 arg6 harg6 (Memref.whole main_v1_1) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7 cc0_scratch8 cc0_scratch9 cc0_scratch10 cc0_scratch11 cc0_scratch12 cc0_scratch13
      = body i arg2 harg2 arg3 harg3 arg4 arg5 arg6 :=
  (printed_eq i arg2 harg2 arg3 harg3 arg4 harg4 arg5 harg5 arg6 harg6).trans (flat_eq i arg2 harg2 arg3 harg3 arg4 arg5 arg6)

end Cert.KernelIdeal.Ag

end
-- ==== Proof.Ring.lean ====
/-
  The ring of sixteen devices, and everything about it that is plain arithmetic: who the neighbours are, which strip
  a device sends and receives at each hop of the two chains, which semaphore counts which copy, and the closed form
  of every offset and every neighbour the printed kernel computes.
-/
module

public import proofs.«01_k».proof.Proof.Text

@[expose] public section

noncomputable section

namespace Cert.KernelIdeal.Ag

open Cert.KernelIdeal Cert.KernelIdeal.Gen
open Idealize.ShloMosaic Idealize.SL.Sem
open Idealize.ShloMosaic.TcCoe

/-! ## Neighbours, hops and flights -/

/-- The device `n` places further round. -/
def rot (c : Dev nD) (n : ℕ) : Dev nD := ⟨(c.val + n) % 16, Nat.mod_lt _ (by decide)⟩

/-- A hop of the right-going chain (eight of them) or of the left-going one (seven). -/
abbrev Hop : Type := Fin 8 ⊕ Fin 7

/-- A copy between devices: its hop, and whether it carries the weight (`true`) or the activation (`false`). -/
abbrev Fl : Type := Hop × Bool

/-- The number of a hop within its chain. -/
def num : Hop → ℕ
  | .inl h => h.val
  | .inr h => h.val

/-- The neighbour a hop sends to: the next device on the right-going chain, the previous one on the left-going. -/
def dst (c : Dev nD) : Hop → Dev nD
  | .inl _ => rot c 1
  | .inr _ => rot c 15

/-- The neighbour it receives from. -/
def frm (c : Dev nD) : Hop → Dev nD
  | .inl _ => rot c 15
  | .inr _ => rot c 1

/-- The device whose strip device `c` sends at a hop. -/
def src (c : Dev nD) : Hop → Dev nD
  | .inl h => rot c (16 - h.val)
  | .inr h => rot c h.val

/-- The device whose strip device `c` receives at a hop. -/
def got (c : Dev nD) : Hop → Dev nD
  | .inl h => rot c (15 - h.val)
  | .inr h => rot c (1 + h.val)

theorem got_dst (c : Dev nD) (k : Hop) : got (dst c k) k = src c k := by revert c k; decide
theorem src_frm (c : Dev nD) (k : Hop) : src (frm c k) k = got c k := by revert c k; decide
theorem frm_dst (c : Dev nD) (k : Hop) : frm (dst c k) k = c := by revert c k; decide
theorem dst_frm (c : Dev nD) (k : Hop) : dst (frm c k) k = c := by revert c k; decide

/-- The first strip sent is the device's own; each later one is the one received the hop before. -/
theorem src_first (c : Dev nD) : src c (.inl 0) = c ∧ src c (.inr 0) = c := by revert c; decide
theorem src_right (c : Dev nD) (h : Fin 7) : got c (.inl h.castSucc) = src c (.inl h.succ) := by revert c h; decide
theorem src_left (c : Dev nD) (h : Fin 6) : got c (.inr h.castSucc) = src c (.inr h.succ) := by revert c h; decide

/-- Sending along a hop moves every device one place round; receiving moves it back. -/
def along (k : Hop) : Dev nD ≃ Dev nD := ⟨(dst · k), (frm · k), (frm_dst · k), (dst_frm · k)⟩

/-- Every device's strip: one's own, and the one received at each hop. -/
def strips (c : Dev nD) : Option Hop → Dev nD
  | none => c
  | some k => got c k

theorem strips_bijective (c : Dev nD) : Function.Bijective (strips c) := by revert c; decide

def stripsEquiv (c : Dev nD) : Option Hop ≃ Dev nD := Equiv.ofBijective (strips c) (strips_bijective c)

/-! ## Semaphores -/

/-- The semaphore a flight is counted on: where it is sent from (`false`), where it lands (`true`). -/
def ix : Fl → Bool → DmaSem sig
  | (.inl h, b), r => ⟨10 + 16 * b.toNat + 8 * r.toNat + h.val, by revert h b r; decide⟩
  | (.inr h, b), r => ⟨42 + 14 * b.toNat + 7 * r.toNat + h.val, by revert h b r; decide⟩

/-- The barrier semaphore. -/
abbrev barS : Sem sig := (SemArray.scalar (sig.barrier 0 rfl) : Sems sig S_).sem

/-- The semaphores of the exchange: the barrier's (`none`), and each flight's two. -/
abbrev Key : Type := Option (Fl × Bool)

def keySem : Key → SemLoc sig
  | none => .reg barS
  | some (f, r) => .dma (ix f r)

/-- Which of them a semaphore is. -/
def keyOf : SemLoc sig → Option Key
  | .reg _ => some none
  | .dma s =>
    if s.val < 10 then none
    else if s.val < 42 then
      let n := s.val - 10
      some (some ((.inl ⟨n % 8, Nat.mod_lt _ (by decide)⟩, decide (16 ≤ n)), decide (8 ≤ n % 16)))
    else
      let n := s.val - 42
      some (some ((.inr ⟨n % 7, Nat.mod_lt _ (by decide)⟩, decide (14 ≤ n)), decide (7 ≤ n % 14)))

theorem keyOf_keySem (k : Key) : keyOf (keySem k) = some k := by revert k; decide

theorem keySem_injective : Function.Injective keySem := fun a b h => by
  have := congrArg keyOf h
  rw [keyOf_keySem, keyOf_keySem] at this
  exact Option.some.inj this

/-- The printed semaphores are these. -/
theorem sem_rx (h : Fin 8) : at8 cc0_scratch6 h = ix (.inl h, false) false ∧ at8 cc0_scratch7 h = ix (.inl h, false) true := by revert h; decide
theorem sem_rw (h : Fin 8) : at8 cc0_scratch8 h = ix (.inl h, true) false ∧ at8 cc0_scratch9 h = ix (.inl h, true) true := by revert h; decide
theorem sem_lx (h : Fin 7) : at7 cc0_scratch10 h = ix (.inr h, false) false ∧ at7 cc0_scratch11 h = ix (.inr h, false) true := by revert h; decide
theorem sem_lw (h : Fin 7) : at7 cc0_scratch12 h = ix (.inr h, true) false ∧ at7 cc0_scratch13 h = ix (.inr h, true) true := by revert h; decide

/-! ## Offsets and neighbours, as printed -/

/-- Device `s`'s column strip of the activation, and its row strip of the weight. -/
def xOff (s : Dev nD) : Fin 2 → ℕ := ![0, 256 * s.val]
def wOff (s : Dev nD) : Fin 2 → ℕ := ![256 * s.val, 0]

theorem xOff_inb (s : Dev nD) : ∀ a, xOff s a + S4096x256.size a ≤ S4096x4096.size a := by revert s; decide
theorem wOff_inb (s : Dev nD) : ∀ a, wOff s a + S256x8192.size a ≤ S4096x8192.size a := by revert s; decide

theorem off1_eq (c : Dev nD) : k0_off1 c = xOff c := by revert c; decide
theorem off2_eq (c : Dev nD) : k0_off2 c = wOff c := by revert c; decide
theorem off3_eq (c : Dev nD) (h : Fin 8) : k0_off3 c (BitVec.ofNat 32 h.val) = xOff (src c (.inl h)) := by revert c h; decide
theorem off4_eq (c : Dev nD) (h : Fin 8) : k0_off4 c (BitVec.ofNat 32 h.val) = wOff (src c (.inl h)) := by revert c h; decide
theorem off5_eq (c : Dev nD) (h : Fin 7) : k0_off5 c (BitVec.ofNat 32 h.val) = xOff (src c (.inr h)) := by revert c h; decide
theorem off6_eq (c : Dev nD) (h : Fin 7) : k0_off6 c (BitVec.ofNat 32 h.val) = wOff (src c (.inr h)) := by revert c h; decide

/-- The neighbours the printed kernel computes, in the order it computes them: the next device once for the barrier, twice
    for every full hop and twice for the last one, and the previous device once for the barrier and twice for every full hop. -/
theorem rightDevs_eq (c : Dev nD) : k0_dev2 c = (rot c 1).val ∧ k0_dev3 c = (rot c 1).val ∧ k0_dev4 c = (rot c 1).val ∧ k0_dev7 c = (rot c 1).val
    ∧ k0_dev8 c = (rot c 1).val ∧ k0_dev11 c = (rot c 1).val ∧ k0_dev12 c = (rot c 1).val ∧ k0_dev15 c = (rot c 1).val
    ∧ k0_dev16 c = (rot c 1).val ∧ k0_dev19 c = (rot c 1).val ∧ k0_dev20 c = (rot c 1).val ∧ k0_dev23 c = (rot c 1).val
    ∧ k0_dev24 c = (rot c 1).val ∧ k0_dev27 c = (rot c 1).val ∧ k0_dev28 c = (rot c 1).val ∧ k0_dev31 c = (rot c 1).val
    ∧ k0_dev32 c = (rot c 1).val := by
  revert c; decide
theorem leftDevs_eq (c : Dev nD) : k0_dev1 c = (rot c 15).val ∧ k0_dev5 c = (rot c 15).val ∧ k0_dev6 c = (rot c 15).val ∧ k0_dev9 c = (rot c 15).val
    ∧ k0_dev10 c = (rot c 15).val ∧ k0_dev13 c = (rot c 15).val ∧ k0_dev14 c = (rot c 15).val ∧ k0_dev17 c = (rot c 15).val
    ∧ k0_dev18 c = (rot c 15).val ∧ k0_dev21 c = (rot c 15).val ∧ k0_dev22 c = (rot c 15).val ∧ k0_dev25 c = (rot c 15).val
    ∧ k0_dev26 c = (rot c 15).val ∧ k0_dev29 c = (rot c 15).val ∧ k0_dev30 c = (rot c 15).val := by
  revert c; decide

/-- A printed neighbour as a device. -/
abbrev dev {n : ℕ} (h : n < nD) : Dev nD := ⟨n, h⟩

theorem rightDevs_dev (i : grid0.Coords) (hc : k0_cond1 i = 1#1) (c : Dev nD) :
    dev (k0_dev2_lt i c hc) = rot c 1 ∧ dev (k0_dev3_lt i c hc) = rot c 1 ∧ dev (k0_dev4_lt i c hc) = rot c 1 ∧ dev (k0_dev7_lt i c hc) = rot c 1
    ∧ dev (k0_dev8_lt i c hc) = rot c 1 ∧ dev (k0_dev11_lt i c hc) = rot c 1 ∧ dev (k0_dev12_lt i c hc) = rot c 1 ∧ dev (k0_dev15_lt i c hc) = rot c 1
    ∧ dev (k0_dev16_lt i c hc) = rot c 1 ∧ dev (k0_dev19_lt i c hc) = rot c 1 ∧ dev (k0_dev20_lt i c hc) = rot c 1 ∧ dev (k0_dev23_lt i c hc) = rot c 1
    ∧ dev (k0_dev24_lt i c hc) = rot c 1 ∧ dev (k0_dev27_lt i c hc) = rot c 1 ∧ dev (k0_dev28_lt i c hc) = rot c 1 ∧ dev (k0_dev31_lt i c hc) = rot c 1
    ∧ dev (k0_dev32_lt i c hc) = rot c 1 := by
  simp only [Fin.ext_iff]; exact rightDevs_eq c
theorem leftDevs_dev (i : grid0.Coords) (hc : k0_cond1 i = 1#1) (c : Dev nD) :
    dev (k0_dev1_lt i c hc) = rot c 15 ∧ dev (k0_dev5_lt i c hc) = rot c 15 ∧ dev (k0_dev6_lt i c hc) = rot c 15 ∧ dev (k0_dev9_lt i c hc) = rot c 15
    ∧ dev (k0_dev10_lt i c hc) = rot c 15 ∧ dev (k0_dev13_lt i c hc) = rot c 15 ∧ dev (k0_dev14_lt i c hc) = rot c 15 ∧ dev (k0_dev17_lt i c hc) = rot c 15
    ∧ dev (k0_dev18_lt i c hc) = rot c 15 ∧ dev (k0_dev21_lt i c hc) = rot c 15 ∧ dev (k0_dev22_lt i c hc) = rot c 15 ∧ dev (k0_dev25_lt i c hc) = rot c 15
    ∧ dev (k0_dev26_lt i c hc) = rot c 15 ∧ dev (k0_dev29_lt i c hc) = rot c 15 ∧ dev (k0_dev30_lt i c hc) = rot c 15 := by
  simp only [Fin.ext_iff]; exact leftDevs_eq c

end Cert.KernelIdeal.Ag

end
-- ==== Proof.Slots.lean ====
/-
  The strips of the two gathered arrays as things a device holds: what they come to hold (the same on every device),
  how a whole array is its sixteen strips, how a strip is its two half shares, and what a copy of a strip leaves.
-/
module

public import proofs.«01_k».proof.Proof.Ring
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ValueIdxCore
public import Idealize.ShloMosaic.Lib.Ring
public import Idealize.ShloMosaic.Lib.ViewIndex
public import Idealize.ShloMosaic.Lib.Tactic

@[expose] public section

noncomputable section

namespace Cert.KernelIdeal.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

/-! ## The resources: the staging pipeline's, the exchange's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds sit in the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev EC : UEmb Counters (MT nD τ sig Unit (Elt F) ℕ UU ℕ) := countersEmb

variable (m : (ℓ : Loc nD τ sig) → Buf (Elt F) ℓ)

/-! ## What the gathered arrays come to hold -/

/-- Columns `256 s …` of the gathered activation are device `s`'s block, -/
def xAll : S4096x4096.Idx → Elt F .fp8e4m3 := fun j =>
  m (((⟨(j 1).val / 256, Nat.div_lt_of_lt_mul (j 1).isLt⟩ : Dev nD) : Thread nD τ).loc main_arg0)
    (ix2 (n0 := 4096) (n1 := 256) (j 0) ⟨(j 1).val % 256, Nat.mod_lt _ (by decide)⟩)

/-- and rows `256 s …` of the gathered weight are device `s`'s block. -/
def wAll : S4096x8192.Idx → Elt F .fp8e4m3 := fun j =>
  m (((⟨(j 0).val / 256, Nat.div_lt_of_lt_mul (j 0).isLt⟩ : Dev nD) : Thread nD τ).loc main_arg1)
    (ix2 (n0 := 256) (n1 := 8192) ⟨(j 0).val % 256, Nat.mod_lt _ (by decide)⟩ (j 1))

abbrev xStrip (s : Dev nD) : Memref sig .tc .vmem S4096x256 .fp8e4m3 := xView (xOff s) (xOff_inb s)
abbrev wStrip (s : Dev nD) : Memref sig .tc .hbm S256x8192 .fp8e4m3 := wView (wOff s) (wOff_inb s)

omit [FloatOps F] in
theorem read_xAll (s : Dev nD) : (xStrip s).view.read (Elt F) (xAll m) = m ((s : Thread nD τ).loc main_arg0) := by
  funext y
  show xAll m (((xStrip s).view).emb y) = _
  unfold xAll
  have e0 : ((xStrip s).view.emb y (0 : Fin 2)).val = (y 0).val := by
    show 0 + 1 * (y 0).val = _; omega
  have e1 : ((xStrip s).view.emb y (1 : Fin 2)).val = 256 * s.val + (y 1).val := by
    show 256 * s.val + 1 * (y 1).val = _; omega
  have hy : (y 1).val < 256 := (y 1).isLt
  have hs : (⟨((xStrip s).view.emb y (1 : Fin 2)).val / 256, Nat.div_lt_of_lt_mul ((xStrip s).view.emb y (1 : Fin 2)).isLt⟩ : Dev nD) = s :=
    Fin.ext (by show ((xStrip s).view.emb y (1 : Fin 2)).val / 256 = s.val; rw [e1]; omega)
  have hi : (ix2 (n0 := 4096) (n1 := 256) ((xStrip s).view.emb y (0 : Fin 2)) ⟨((xStrip s).view.emb y (1 : Fin 2)).val % 256, Nat.mod_lt _ (by decide)⟩
      : S4096x256.Idx) = y := by
    funext a
    match a with
    | ⟨0, _⟩ => exact Fin.ext e0
    | ⟨1, _⟩ => exact Fin.ext (by show ((xStrip s).view.emb y (1 : Fin 2)).val % 256 = (y 1).val; rw [e1]; omega)
  rw [hi]
  exact congrArg (fun d : Dev nD => m ((d : Thread nD τ).loc main_arg0) y) hs

omit [FloatOps F] in
theorem read_wAll (s : Dev nD) : (wStrip s).view.read (Elt F) (wAll m) = m ((s : Thread nD τ).loc main_arg1) := by
  funext y
  show wAll m (((wStrip s).view).emb y) = _
  unfold wAll
  have e1 : ((wStrip s).view.emb y (1 : Fin 2)).val = (y 1).val := by
    show 0 + 1 * (y 1).val = _; omega
  have e0 : ((wStrip s).view.emb y (0 : Fin 2)).val = 256 * s.val + (y 0).val := by
    show 256 * s.val + 1 * (y 0).val = _; omega
  have hy : (y 0).val < 256 := (y 0).isLt
  have hs : (⟨((wStrip s).view.emb y (0 : Fin 2)).val / 256, Nat.div_lt_of_lt_mul ((wStrip s).view.emb y (0 : Fin 2)).isLt⟩ : Dev nD) = s :=
    Fin.ext (by show ((wStrip s).view.emb y (0 : Fin 2)).val / 256 = s.val; rw [e0]; omega)
  have hi : (ix2 (n0 := 256) (n1 := 8192) ⟨((wStrip s).view.emb y (0 : Fin 2)).val % 256, Nat.mod_lt _ (by decide)⟩ ((wStrip s).view.emb y (1 : Fin 2))
      : S256x8192.Idx) = y := by
    funext a
    match a with
    | ⟨0, _⟩ => exact Fin.ext (by show ((wStrip s).view.emb y (0 : Fin 2)).val % 256 = (y 0).val; rw [e0]; omega)
    | ⟨1, _⟩ => exact Fin.ext e1
  rw [hi]
  exact congrArg (fun d : Dev nD => m ((d : Thread nD τ).loc main_arg1) y) hs

/-! ## Holding a strip -/

/-- The two arrays on device `c`. -/
abbrev xLoc (c : Dev nD) : Loc nD τ sig := (c : Thread nD τ).loc cc0_scratch0
abbrev wLoc (c : Dev nD) : Loc nD τ sig := (c : Thread nD τ).loc main_v1_1

/-- The elements of strip `s`. -/
def xSet (s : Dev nD) : Finset S4096x4096.Idx := (xStrip s).view.set
def wSet (s : Dev nD) : Finset S4096x8192.Idx := (wStrip s).view.set

/-- Some elements held whole, whatever is in them. -/
def anyAt (ℓ : Loc nD τ sig) (I : Finset (Idx ℓ)) : sProp 𝕄 := iprop(∃ f, ℓ ↦[I]{fullShare} f)

instance anyAt_storable (ℓ : Loc nD τ sig) (I : Finset (Idx ℓ)) : BI.Storable (upEmb : UEmb _ 𝕄) (anyAt (F := F) ℓ I) := by
  unfold anyAt; infer_instance

/-- Device `c` holds its copy of strip `s` at share `q`, filled: of the weight if `b`, of the activation if not. -/
def blk (b : Bool) (c s : Dev nD) (q : PosShare TreeShare) : sProp 𝕄 :=
  match b with
  | false => xLoc c ↦[xSet s]{q} xAll m
  | true => wLoc c ↦[wSet s]{q} wAll m

/-- Device `c` holds its copy of strip `s` whole, whatever is in it. -/
def room (b : Bool) (c s : Dev nD) : sProp 𝕄 :=
  match b with
  | false => anyAt (xLoc c) (xSet s)
  | true => anyAt (wLoc c) (wSet s)

instance blk_storable (b : Bool) (c s : Dev nD) (q : PosShare TreeShare) : BI.Storable (upEmb : UEmb _ 𝕄) (blk m b c s q) := by
  cases b
  · exact (inferInstance : BI.Storable (upEmb : UEmb _ 𝕄) (xLoc c ↦[xSet s]{q} xAll m))
  · exact (inferInstance : BI.Storable (upEmb : UEmb _ 𝕄) (wLoc c ↦[wSet s]{q} wAll m))
instance room_storable (b : Bool) (c s : Dev nD) : BI.Storable (upEmb : UEmb _ 𝕄) (room (F := F) b c s) := by
  cases b
  · exact anyAt_storable _ _
  · exact anyAt_storable _ _

omit [FloatOps F] in
/-- A whole strip is its two halves. -/
theorem blk_halves (b : Bool) (c s : Dev nD) :
    (blk m b c s fullShare : sProp 𝕄) ⊣⊢ iprop(blk m b c s fullShare.left ∗ blk m b c s fullShare.right) := by
  cases b
  · exact pointsTo_share (PosShare.mem_left_op_right fullShare)
  · exact pointsTo_share (PosShare.mem_left_op_right fullShare)

theorem xSet_eq (s : Dev nD) : xSet s = (Rect.unit (s := S4096x4096) (xOff s) S4096x256.size (xOff_inb s)).set := View.set_slice_whole _ _
theorem wSet_eq (s : Dev nD) : wSet s = (Rect.unit (s := S4096x8192) (wOff s) S256x8192.size (wOff_inb s)).set := View.set_slice_whole _ _

theorem xSet_disjoint (s s' : Dev nD) (h : s ≠ s') : Disjoint (xSet s) (xSet s') := by
  rw [xSet_eq, xSet_eq]
  exact Ring.lead_disjoint (s := S4096x4096) (NB := 16) 1 256 xOff S4096x256.size xOff_inb (fun _ => rfl) rfl s s' h
theorem wSet_disjoint (s s' : Dev nD) (h : s ≠ s') : Disjoint (wSet s) (wSet s') := by
  rw [wSet_eq, wSet_eq]
  exact Ring.lead_disjoint (s := S4096x8192) (NB := 16) 0 256 wOff S256x8192.size wOff_inb (fun _ => rfl) rfl s s' h
theorem xSet_cover : Finset.univ.biUnion xSet = Finset.univ := by
  rw [show xSet = fun s => (Rect.unit (s := S4096x4096) (xOff s) S4096x256.size (xOff_inb s)).set from funext xSet_eq]
  exact Ring.lead_cover (s := S4096x4096) (NB := 16) 1 256 xOff S4096x256.size xOff_inb (fun _ => rfl) (by decide) rfl (by decide) rfl
theorem wSet_cover : Finset.univ.biUnion wSet = Finset.univ := by
  rw [show wSet = fun s => (Rect.unit (s := S4096x8192) (wOff s) S256x8192.size (wOff_inb s)).set from funext wSet_eq]
  exact Ring.lead_cover (s := S4096x8192) (NB := 16) 0 256 wOff S256x8192.size wOff_inb (fun _ => rfl) (by decide) rfl (by decide) rfl

omit [FloatOps F] in
/-- The sixteen strips of an array, filled, are the array, filled. -/
theorem blks_x (c : Dev nD) (q : PosShare TreeShare) :
    (bigSep Finset.univ fun s : Dev nD => blk m false c s q : sProp 𝕄) = (xLoc c ↦{q} xAll m) :=
  (Ring.pointsTo_blocks (ℓ := xLoc c) xSet xSet_disjoint xSet_cover (xAll m)).symm
omit [FloatOps F] in
theorem blks_w (c : Dev nD) (q : PosShare TreeShare) :
    (bigSep Finset.univ fun s : Dev nD => blk m true c s q : sProp 𝕄) = (wLoc c ↦{q} wAll m) :=
  (Ring.pointsTo_blocks (ℓ := wLoc c) wSet wSet_disjoint wSet_cover (wAll m)).symm

omit [FloatOps F] in
/-- A buffer cut into disjoint parts, with anything in it, is its parts with anything in them. -/
theorem any_parts (ℓ : Loc nD τ sig) (I : Dev nD → Finset (Idx ℓ)) (hd : ∀ s s', s ≠ s' → Disjoint (I s) (I s')) (hc : Finset.univ.biUnion I = Finset.univ) :
    (iprop(∃ f, ℓ ↦{fullShare} f) : sProp 𝕄) ⊢ bigSep Finset.univ fun s : Dev nD => anyAt ℓ (I s) := by
  iintro ⟨%f, H⟩
  ihave H' := (Entails.of_eq (Ring.pointsTo_blocks (ℓ := ℓ) (q := fullShare) I hd hc f)) $$ H
  have h : (bigSep Finset.univ fun s : Dev nD => (ℓ ↦[I s]{fullShare} f : sProp 𝕄)) ⊢ bigSep Finset.univ fun s : Dev nD => anyAt ℓ (I s) :=
    bigSep_mono fun s _ => show (ℓ ↦[I s]{fullShare} f : sProp 𝕄) ⊢ anyAt ℓ (I s) from by
      iintro H; unfold anyAt; iexists f; iexact H
  iapply h
  iexact H'

omit [FloatOps F] in
theorem rooms_x (c : Dev nD) : (iprop(∃ f, xLoc c ↦{fullShare} f) : sProp 𝕄) ⊢ bigSep Finset.univ fun s : Dev nD => room false c s :=
  any_parts (xLoc c) xSet xSet_disjoint xSet_cover
omit [FloatOps F] in
theorem rooms_w (c : Dev nD) : (iprop(∃ f, wLoc c ↦{fullShare} f) : sProp 𝕄) ⊢ bigSep Finset.univ fun s : Dev nD => room true c s :=
  any_parts (wLoc c) wSet wSet_disjoint wSet_cover

/-! ## What a copy leaves in a strip -/

omit [FloatOps F] in
/-- A strip written with device `s`'s block is strip `s`, filled. -/
theorem x_written (c s : Dev nD) (fd : Buf (Elt F) (xLoc c)) :
    ((xStrip s).view.loc (c : Thread nD τ) ↦[(xStrip s).view.set]{fullShare}
        (xStrip s).view.write (Elt F) fd (m ((s : Thread nD τ).loc main_arg0)) Finset.univ : sProp 𝕄) ⊢ blk m false c s fullShare := by
  refine Entails.of_eq (pointsTo_congr fun i hi => ?_)
  obtain ⟨y, -, rfl⟩ := Finset.mem_map.mp hi
  exact View.eq_of_read_eq (congrFun ((View.read_write_univ _ _).trans (read_xAll m s).symm) y)
omit [FloatOps F] in
theorem w_written (c s : Dev nD) (fd : Buf (Elt F) (wLoc c)) :
    ((wStrip s).view.loc (c : Thread nD τ) ↦[(wStrip s).view.set]{fullShare}
        (wStrip s).view.write (Elt F) fd (m ((s : Thread nD τ).loc main_arg1)) Finset.univ : sProp 𝕄) ⊢ blk m true c s fullShare := by
  refine Entails.of_eq (pointsTo_congr fun i hi => ?_)
  obtain ⟨y, -, rfl⟩ := Finset.mem_map.mp hi
  exact View.eq_of_read_eq (congrFun ((View.read_write_univ _ _).trans (read_wAll m s).symm) y)

/-- The credit of one strip. -/
def amt : Bool → ℕ
  | false => (xStrip 0).view.dmaCredit
  | true => (wStrip 0).view.dmaCredit

theorem amt_pos (b : Bool) : 0 < amt b := by
  cases b
  · exact View.dmaCredit_pos _ (by decide)
  · exact View.dmaCredit_pos _ (by decide)

/-- A memref is strip `s` of the weight (`b`) or of the activation: holding its elements is holding the strip, a whole
    strip is some contents of them, and writing into it what reading a filled strip gives fills it. -/
structure IsStrip (b : Bool) (s : Dev nD) {sp : Space} {sh : Shape} (M : Memref sig .tc sp sh .fp8e4m3) : Prop where
  amount : ∀ q : DmaSem sig, M.view.amount (.dma q) = amt b
  held : ∃ f : M.view.ty.Contents (Elt F), (∀ (c : Dev nD) (q : PosShare TreeShare),
      (blk m b c s q : sProp 𝕄) = (M.view.loc (c : Thread nD τ) ↦[M.view.set]{q} f))
    ∧ ∀ (c : Dev nD) (fd : Buf (Elt F) (M.view.loc (c : Thread nD τ))),
      (M.view.loc (c : Thread nD τ) ↦[M.view.set]{fullShare} M.view.write (Elt F) fd (M.view.read (Elt F) f) Finset.univ : sProp 𝕄) ⊢ blk m b c s fullShare
  roomy : ∀ c : Dev nD, (room b c s : sProp 𝕄) = anyAt (M.view.loc (c : Thread nD τ)) M.view.set

omit [FloatOps F] in
theorem isStrip_x (s : Dev nD) : IsStrip m false s (xStrip s) :=
  ⟨fun _ => rfl, ⟨xAll m, fun _ _ => rfl, fun c fd => by rw [read_xAll]; exact x_written m c s fd⟩, fun _ => rfl⟩
omit [FloatOps F] in
theorem isStrip_w (s : Dev nD) : IsStrip m true s (wStrip s) :=
  ⟨fun _ => rfl, ⟨wAll m, fun _ _ => rfl, fun c fd => by rw [read_wAll]; exact w_written m c s fd⟩, fun _ => rfl⟩

end Cert.KernelIdeal.Ag

end
-- ==== Proof.Sched.lean ====
/-
  The exchange between devices as a schedule: for each semaphore of it who counts it up, by how much, and what each
  count hands over.

    barrier of c     the next device counts one and hands over the strips its right-coming copies land in;
                     the previous device counts one and hands over the strips its left-coming copies land in
    send of a copy   the copy itself, once read: the half share of the strip that was lent to it comes back
    land of a copy   the copy itself, once written: the strip of device `got c k`, filled

  Every semaphore is used for one round. A device waits in the order barrier, hop 0, hop 1, …, so the levels are the
  barrier's, then the hop numbers: at each wait everything a device still owes is at a higher level.
-/
module

public import proofs.«01_k».proof.Proof.Slots

@[expose] public section

noncomputable section

namespace Cert.KernelIdeal.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The semaphore `k` of device `c`. -/
abbrev cell (c : Dev nD) (k : Key) : GSem nD τ sig := ((c : Thread nD τ), keySem k)

/-! ## What each count hands over -/

/-- The share of its source a copy is lent, and the share that stays: the two chains send a device's own strip at the
    same time, so each takes a different half. -/
def lent : Hop → PosShare TreeShare
  | .inl _ => fullShare.left
  | .inr _ => fullShare.right
def kept : Hop → PosShare TreeShare
  | .inl _ => fullShare.right
  | .inr _ => fullShare.left

/-- Where device `c`'s copy lands: strip `src c k` of the neighbour. -/
def landing (c : Dev nD) (f : Fl) : sProp 𝕄 := room f.2 (dst c f.1) (src c f.1)

/-- What the barrier of device `c` is handed: by the next device (`true`), and by the previous one (`false`). -/
def barPay (c : Dev nD) : Bool → sProp 𝕄
  | true => bigSep Finset.univ fun p : Fin 8 × Bool => landing c (.inl p.1, p.2)
  | false => bigSep Finset.univ fun p : Fin 7 × Bool => landing c (.inr p.1, p.2)

/-- What a copy hands back where it was sent from, and what it hands over where it lands. -/
def flPay (c : Dev nD) (f : Fl) : Bool → sProp 𝕄
  | false => blk m f.2 c (src c f.1) (lent f.1)
  | true => blk m f.2 c (got c f.1) fullShare

def keyPay (c : Dev nD) : Key → Bool → sProp 𝕄
  | none, d => barPay c d
  | some (f, r), _ => flPay m c f r

def keyAmt : Key → ℕ
  | none => 1
  | some (f, _) => amt f.2

def keyDuties : Key → Finset Bool
  | none => Finset.univ
  | some _ => {false}

instance landing_storable (c : Dev nD) (f : Fl) : BI.Storable (upEmb : UEmb _ 𝕄) (landing (F := F) c f) := by
  unfold landing; infer_instance
instance keyPay_storable (c : Dev nD) (k : Key) (d : Bool) : BI.Storable (upEmb : UEmb _ 𝕄) (keyPay m c k d) := by
  match k, d with
  | none, true => unfold keyPay barPay; infer_instance
  | none, false => unfold keyPay barPay; infer_instance
  | some (f, true), _ => unfold keyPay flPay; infer_instance
  | some (f, false), _ => unfold keyPay flPay; infer_instance

theorem keyAmt_pos (k : Key) : 0 < keyAmt k := by
  match k with
  | none => exact Nat.one_pos
  | some (f, _) => exact amt_pos f.2

/-- The schedule. -/
def Rd : Rounds.Schedule (GSem nD τ sig) Bool 𝕄 where
  duties g r := if r = 0 ∧ g.1.2 = .tc then (keyOf g.2).elim ∅ keyDuties else ∅
  unitless _ := False
  amount g _ _ := (keyOf g.2).elim 1 keyAmt
  payload g _ d := (keyOf g.2).elim iprop(emp) fun k => keyPay m g.1.1 k d
  amount_pos g _ _ _ := by
    cases keyOf g.2 with
    | none => exact Nat.one_pos
    | some k => exact keyAmt_pos k

instance Rd_payload_storable (g : GSem nD τ sig) (r : ℕ) (d : Bool) : BI.Storable (upEmb : UEmb _ 𝕄) ((Rd (F := F) m).payload g r d) := by
  show BI.Storable upEmb ((keyOf g.2).elim (iprop(emp) : sProp 𝕄) fun k => keyPay m g.1.1 k d)
  cases keyOf g.2 with
  | none => exact (inferInstance : BI.Storable (upEmb : UEmb _ 𝕄) (iprop(emp) : sProp 𝕄))
  | some k => exact keyPay_storable m g.1.1 k d

section AtCell

variable (c : Dev nD) (k : Key)

omit [FloatOps F] in
theorem duties_cell : (Rd (F := F) m).duties (cell c k) 0 = keyDuties k := by
  dsimp only [Rd]; rw [if_pos ⟨rfl, rfl⟩, keyOf_keySem]; rfl
omit [FloatOps F] in
theorem duties_later (g : GSem nD τ sig) : ∀ r, 1 ≤ r → (Rd (F := F) m).duties g r = ∅ := fun r hr => by
  dsimp only [Rd]; rw [if_neg fun h => by omega]
omit [FloatOps F] in
theorem amount_cell (r : ℕ) (d : Bool) : (Rd (F := F) m).amount (cell c k) r d = keyAmt k := by
  dsimp only [Rd]; rw [keyOf_keySem]; rfl
omit [FloatOps F] in
theorem payload_cell (r : ℕ) (d : Bool) : (Rd (F := F) m).payload (cell c k) r d = keyPay m c k d := by
  dsimp only [Rd]; rw [keyOf_keySem]; rfl

omit [FloatOps F] in
theorem expect_bar : (Rd (F := F) m).expect (cell c none) 0 = 2 := by
  unfold Schedule.expect Schedule.amountOf
  rw [duties_cell, Finset.sum_congr rfl fun d _ => amount_cell m c none 0 d]; rfl
omit [FloatOps F] in
theorem expect_fl (f : Fl) (r : Bool) : (Rd (F := F) m).expect (cell c (some (f, r))) 0 = amt f.2 := by
  unfold Schedule.expect Schedule.amountOf
  rw [duties_cell, Finset.sum_congr rfl fun d _ => amount_cell m c (some (f, r)) 0 d]; exact Finset.sum_singleton _ _

omit [FloatOps F] in
theorem rest_bar : bigSep ((Rd (F := F) m).duties (cell c none) 0 \ ∅) (fun d => (Rd (F := F) m).payload (cell c none) 0 d)
    = iprop(barPay c false ∗ barPay c true) := by
  rw [Finset.sdiff_empty, duties_cell, bigSep_congr fun d _ => payload_cell m c none 0 d]
  exact bigSep_univ_eq_bigSepL [false, true] (by decide) (by decide) _
omit [FloatOps F] in
theorem rest_fl (f : Fl) (r : Bool) :
    bigSep ((Rd (F := F) m).duties (cell c (some (f, r))) 0 \ ∅) (fun d => (Rd (F := F) m).payload (cell c (some (f, r))) 0 d) = flPay m c f r := by
  rw [Finset.sdiff_empty, duties_cell, bigSep_congr fun d _ => payload_cell m c (some (f, r)) 0 d]
  exact bigSep_singleton

end AtCell

/-! ## Levels, and what is owed -/

def L (g : GSem nD τ sig) : Finset Unit := if g.1.2 = .tc then {()} else ∅

/-- The barrier is at level one, where a copy lands at two above its hop's number, everything else at zero. -/
def keyLv : Key → ℕ
  | none => 1
  | some (_, false) => 0
  | some (f, true) => 2 + num f.1

def lv (g : GSem nD τ sig) (_ : Unit) : ℕ := (keyOf g.2).elim 0 keyLv

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Key) : lv (cell c k) () = keyLv k := by unfold lv; rw [keyOf_keySem]; rfl

/-- Everything in `O` is owed to semaphores at level `n` or higher. -/
def Above (n : ℕ) (O : CellTallies nD τ sig Unit) : Prop := ∀ g u, 0 < O g u → g.1.2 = .tc ∧ n ≤ lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
theorem above_cell {n : ℕ} (c : Dev nD) (k : Key) (a : ℕ) (hn : n ≤ keyLv k) : Above n (tallyAt (cell c k) () a) := fun g u hg => by
  rw [tallyAt_apply] at hg
  by_cases h : g = cell c k ∧ u = ()
  · rw [h.1, h.2]; exact ⟨rfl, by rw [lv_cell]; exact hn⟩
  · rw [if_neg h] at hg; exact absurd hg (Nat.lt_irrefl 0)
theorem above_mono {n n' : ℕ} {O : CellTallies nD τ sig Unit} (h : Above n O) (hn : n' ≤ n) : Above n' O :=
  fun g u hg => ⟨(h g u hg).1, hn.trans (h g u hg).2⟩

omit [FloatOps F] in
/-- A device may wait on a semaphore below everything it owes. -/
theorem mayWait_of_above (c : Dev nD) (sm : SemLoc sig) {O : CellTallies nD τ sig Unit} (h : Above (lv ((c : Thread nD τ), sm) () + 1) O) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by
      have := (h g u hg).1
      unfold L; rw [if_pos this]; exact Finset.mem_singleton_self _)
    (fun p hp => by rw [Finset.mem_singleton.mp hp])
    (fun g u hg => (h g u hg).2)

/-- The credit of a flight, owed where it lands. -/
def flOwed (c : Dev nD) (f : Fl) : CellTallies nD τ sig Unit := tallyAt (cell (dst c f.1) (some (f, true))) () (amt f.2)

/-- Hop `h`'s four copies, owed on top of `O`; and the last hop's two. -/
def hopOwed (c : Dev nD) (h : Fin 7) (O : CellTallies nD τ sig Unit) : CellTallies nD τ sig Unit :=
  O + flOwed c (.inr h, true) + flOwed c (.inr h, false) + flOwed c (.inl h.castSucc, true) + flOwed c (.inl h.castSucc, false)

def lastOwed (c : Dev nD) : CellTallies nD τ sig Unit := 0 + flOwed c (.inl 7, true) + flOwed c (.inl 7, false)

/-- The full hops in order. -/
def hops : List (Fin 7) := [0, 1, 2, 3, 4, 5, 6]

/-- What is owed before hop `n`: it and every later hop. -/
def owedFrom (c : Dev nD) (n : ℕ) : CellTallies nD τ sig Unit := (hops.drop n).foldr (hopOwed c) (lastOwed c)

theorem owedFrom_hop (c : Dev nD) (h : Fin 7) : owedFrom c h.val = hopOwed c h (owedFrom c (h.val + 1)) := by
  have e : ∀ h : Fin 7, hops.drop h.val = h :: hops.drop (h.val + 1) := by decide
  unfold owedFrom; rw [e h]; rfl

theorem above_fl {n : ℕ} (c : Dev nD) (f : Fl) (h : n ≤ 2 + num f.1) : Above n (flOwed c f) := above_cell _ _ _ h

theorem above_hop {n : ℕ} (c : Dev nD) (h : Fin 7) {O : CellTallies nD τ sig Unit} (hn : n ≤ 2 + h.val) (hO : Above n O) : Above n (hopOwed c h O) :=
  above_add (above_add (above_add (above_add hO (above_fl c _ hn)) (above_fl c _ hn)) (above_fl c _ hn)) (above_fl c _ hn)

/-- Before hop `n` everything owed is to hop `n` and later. -/
theorem above_from (c : Dev nD) (n : Fin 8) : Above (2 + n.val) (owedFrom c n.val) := by
  have e : ∀ n : Fin 8, ∀ h ∈ hops.drop n.val, n.val ≤ h.val := by decide
  have hl : ∀ l : List (Fin 7), (∀ h ∈ l, n.val ≤ h.val) → Above (2 + n.val) (l.foldr (hopOwed c) (lastOwed c)) := by
    intro l hl
    induction l with
    | nil =>
      have hn : 2 + n.val ≤ 2 + 7 := by omega
      exact above_add (above_add (above_zero _) (above_fl c _ hn)) (above_fl c _ hn)
    | cons h l ih =>
      exact above_hop c h (Nat.add_le_add_left (hl h (List.mem_cons_self)) 2) (ih fun h' hm => hl h' (List.mem_cons_of_mem _ hm))
  exact hl _ (e n)

/-- What a device owes at launch: every copy, and a count of one to each neighbour's barrier (the previous device's is
    paid first). -/
def owed₀ (c : Dev nD) : CellTallies nD τ sig Unit :=
  owedFrom c 0 + tallyAt (cell (rot c 1) none) () 1 + tallyAt (cell (rot c 15) none) () 1

theorem above_owed₀ (c : Dev nD) : Above 1 (owed₀ c) :=
  above_add (above_add (above_mono (above_from c 0) (by decide)) (above_cell _ _ _ (by decide))) (above_cell _ _ _ (by decide))

/-- What device `c` owes, whatever waits are on record. -/
def Owes (c : Dev nD) (O : CellTallies nD τ sig Unit) : sProp 𝕄 := iprop(∃ W, owes (c : Thread nD τ) O W)

/-! ## The records every device shares, and what it holds of a flight -/

/-- Every semaphore of the exchange runs the schedule, and is in its first round. -/
def records (K : Dev nD × Key → ℕ) : sProp 𝕄 :=
  iprop((bigSep Finset.univ fun ck : Dev nD × Key => cellInv ER (Rd m) (K ck) (cell ck.1 ck.2))
    ∗ (bigSep Finset.univ fun ck : Dev nD × Key => reached ER (cell ck.1 ck.2) 0)
    ∗ levAts L lv)

instance records_persistent (K : Dev nD × Key → ℕ) : BI.Persistent (records m K) := by unfold records; infer_instance

variable (K : Dev nD × Key → ℕ)

omit [FloatOps F] in
theorem records_inv (c : Dev nD) (k : Key) : records m K ⊢ cellInv ER (Rd m) (K (c, k)) (cell c k) := by
  unfold records
  iintro ⟨H, -, -⟩
  iapply (show (bigSep Finset.univ fun ck : Dev nD × Key => (cellInv ER (Rd m) (K ck) (cell ck.1 ck.2) : sProp 𝕄)) ⊢ cellInv ER (Rd m) (K (c, k)) (cell c k) from
    bigSep_elim (Finset.mem_univ (c, k)))
  iexact H
omit [FloatOps F] in
theorem records_reached (c : Dev nD) (k : Key) : records m K ⊢ reached ER (cell c k) 0 := by
  unfold records
  iintro ⟨-, H, -⟩
  iapply (show (bigSep Finset.univ fun ck : Dev nD × Key => (reached ER (cell ck.1 ck.2) 0 : sProp 𝕄)) ⊢ reached ER (cell c k) 0 from
    bigSep_elim (Finset.mem_univ (c, k)))
  iexact H
omit [FloatOps F] in
theorem records_lev : records m K ⊢ levAts L lv := by
  unfold records
  iintro ⟨-, -, H⟩
  iexact H

omit [FloatOps F] in
/-- The levels on record let a device wait while what it owes is above the level of the wait. -/
theorem records_mayWait (c : Dev nD) (sm : SemLoc sig) {O : CellTallies nD τ sig Unit} (h : Above (lv ((c : Thread nD τ), sm) () + 1) O) :
    records m K ⊢ MayWait (c : Thread nD τ) sm () O := by
  have h' : (levAts L lv : sProp 𝕄) ⊢ MayWait (c : Thread nD τ) sm () O := mayWait_of_above c sm h
  unfold records
  iintro ⟨-, -, H⟩
  iapply h'
  iexact H

/-- What device `c` needs to send a flight: the right to count it at both ends, and the strip it lands in. -/
def toSend (c : Dev nD) (f : Fl) : sProp 𝕄 :=
  iprop(dutyTok ER (cell c (some (f, false))) 0 false ∗ dutyTok ER (cell (dst c f.1) (some (f, true))) 0 false ∗ landing c f)

/-- What it needs to wait for a flight at both ends. -/
def toWait (c : Dev nD) (f : Fl) : sProp 𝕄 :=
  iprop(atPos ER (cell c (some (f, false))) 0 ∅ 0 ∗ atPos ER (cell c (some (f, true))) 0 ∅ 0 ∗ cred (tallyAt (cell c (some (f, true))) () (amt f.2)))

/-- What it has after both: the two semaphores at zero, the lent half of the strip it sent, and the strip it received. -/
def doneFl (c : Dev nD) (f : Fl) : sProp 𝕄 :=
  iprop(semVal (cell c (some (f, false))) 0 ∗ semVal (cell c (some (f, true))) 0 ∗ blk m f.2 c (src c f.1) (lent f.1) ∗ blk m f.2 c (got c f.1) (kept f.1))

end Cert.KernelIdeal.Ag

end
-- ==== Proof.Steps.lean ====
/-
  The steps of the exchange: sending a strip, waiting for one, and the two counts and one wait of the barrier. Each is
  shown once, for a flight `f` of any hop, and then once for each of the two arrays.
-/
module

public import proofs.«01_k».proof.Proof.Sched

@[expose] public section

noncomputable section

namespace Cert.KernelIdeal.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)

abbrev 𝒱₀ : Variants := Variants.none

/-- Device `c` may run `p`, and has `Q` at the end. -/
abbrev runs {α : Type} (p : Pg F α) (Q : α → sProp 𝕄) : sProp 𝕄 := wp frame (wpE (defs₀ (F := F)) 𝒱₀ (c : Thread nD τ) none) Set.univ p Q

/-- What holds at the end of a program that ends with a reply is what holds at the reply. -/
theorem runs_seq {α β : Type} (p : Pg F α) (k : α → Pg F β) (Q : β → sProp 𝕄) : runs c (p >>= k) Q = runs c p fun a => runs c (k a) Q :=
  wp_bind _ _ _ _ _ _

/-- One operation, and nothing after it. -/
theorem runs_ret {α : Type} (a : α) (Q : α → sProp 𝕄) : Q a ⊢ runs c (.ret a) Q := by
  unfold runs; rw [wp_ret]; iintro H; imodintro; iexact H

/-! ## Sending -/

section Send

variable (O : CellTallies nD τ sig Unit) (Q : PUnit.{1} → sProp (MT nD τ sig Unit (Elt F) ℕ UU ℕ))

/-- What a device gives to send a flight, and what it has then. -/
def sendPre (f : Fl) : sProp 𝕄 := iprop(toSend c f ∗ blk m f.2 c (src c f.1) (lent f.1) ∗ Owes c (O + flOwed c f))
def sendPost (f : Fl) : sProp 𝕄 := iprop(cred (tallyAt (cell c (some (f, false))) () (amt f.2)) ∗ Owes c O)

set_option maxHeartbeats 1000000 in
/-- A flight is sent. -/
theorem send_run (f : Fl) {sp : Space} {sh : Shape} {M : Memref sig .tc sp sh .fp8e4m3} (hM : IsStrip m f.2 (src c f.1) M)
    {hsc : (M : Memref sig (Dev.tc (dst c f.1) : Thread nD τ).2.kind sp sh .fp8e4m3).view.ref.isScScratch = false}
    {hsrc : M.view.WordExact} {hdst : M.view.WordExact}
    {hsem : DmaTarget.Typed (p := .tc) sp (.dma (ix f true)) (.remote (Dev.tc (dst c f.1) : Thread nD τ) M (.dma (ix f false)) hsc)} :
    iprop(records m K ∗ sendPre m c O f) ⊢ iprop((sendPost c O f -∗ Q ⟨⟩) -∗ runs c
      (Prog.lift (.enqueueDma M (.remote (Dev.tc (dst c f.1)) M (.dma (ix f false)) hsc) (.dma (ix f true)) hsrc hdst hsem)) Q) := by
  obtain ⟨hN, ⟨G, hG, hwr⟩, hroom⟩ := hM
  unfold sendPre sendPost toSend landing Owes
  rw [hroom, hG]
  unfold anyAt
  iintro ⟨#HR, ⟨Ht, Ht', %fd, Hroom⟩, Hb, ⟨%W, HO⟩⟩ Hk
  iapply (Rounds.wp_send_pointsTo (Val := Elt F) 𝒱₀ ER (Rd m) (c : Thread nD τ) none (c' := (dst c f.1 : Thread nD τ)) (src := M) (dst := M)
    (sS := keySem (some (f, false))) (sem := keySem (some (f, true)))
    (κ₁ := K (c, some (f, false))) (κ₂ := K (dst c f.1, some (f, true))) (r₁ := 0) (r₂ := 0) (d₁ := false) (d₂ := false) (fs := G) (fd := fd) (q := lent f.1)
    (by rw [duties_cell]; exact Finset.mem_singleton_self _) (by rw [duties_cell]; exact Finset.mem_singleton_self _)
    () () (amt f.2) (hN _) (amount_cell m c _ 0 false) (amount_cell m (dst c f.1) _ 0 false) O rfl (W := W)
    (by rw [payload_cell, ← hG]; exact BI.Entails.refl _)
    (by
      rw [payload_cell]
      refine (hwr (dst c f.1) fd).trans (Entails.of_eq ?_)
      show _ = blk m f.2 (dst c f.1) (got (dst c f.1) f.1) fullShare
      rw [got_dst])) $$ [Ht Ht' Hroom Hb HO]
  · isplitr; · iapply (records_inv m K c (some (f, false))); iexact HR
    isplitr; · iapply (records_inv m K (dst c f.1) (some (f, true))); iexact HR
    isplitl [Hb]; · iexact Hb
    isplitl [Hroom]; · iexact Hroom
    isplitl [HO]; · iexact HO
    isplitl [Ht]; · iexact Ht
    isplitr; · iapply (records_reached m K c (some (f, false))); iexact HR
    isplitl [Ht']; · iexact Ht'
    iapply (records_reached m K (dst c f.1) (some (f, true))); iexact HR
  iintro ⟨Hc, HO⟩
  iapply (runs_ret c)
  iapply Hk
  isplitl [Hc]; · iexact Hc
  iexists W; iexact HO

variable (k : Hop)

theorem xSend_run {o : Fin 2 → ℕ} (ho : o = xOff (src c k)) (hi : ∀ a, o a + S4096x256.size a ≤ S4096x4096.size a)
    (hw : (Rect.unit (s := S4096x4096) o S4096x256.size hi).WholeWords (EltTy.packing .fp8e4m3)) {n : Dev nD} (hn : n = dst c k)
    {s r : DmaSem sig} (hs : s = ix (k, false) false) (hr : r = ix (k, false) true) :
    iprop(records m K ∗ sendPre m c O (k, false)) ⊢ iprop((sendPost c O (k, false) -∗ Q ⟨⟩) -∗ runs c (xSend o hi hw n s r) Q) := by
  subst ho hn hs hr
  exact send_run m K c O Q (k, false) (isStrip_x m (src c k))

theorem wSend_run {o : Fin 2 → ℕ} (ho : o = wOff (src c k)) (hi : ∀ a, o a + S256x8192.size a ≤ S4096x8192.size a)
    (hw : (Rect.unit (s := S4096x8192) o S256x8192.size hi).WholeWords (EltTy.packing .fp8e4m3)) {n : Dev nD} (hn : n = dst c k)
    {s r : DmaSem sig} (hs : s = ix (k, true) false) (hr : r = ix (k, true) true) :
    iprop(records m K ∗ sendPre m c O (k, true)) ⊢ iprop((sendPost c O (k, true) -∗ Q ⟨⟩) -∗ runs c (wSend o hi hw n s r) Q) := by
  subst ho hn hs hr
  exact send_run m K c O Q (k, true) (isStrip_w m (src c k))

end Send

/-! ## Waiting -/

section Wait

variable {O : CellTallies nD τ sig Unit} (Q : PUnit.{1} → sProp (MT nD τ sig Unit (Elt F) ℕ UU ℕ)) (f : Fl) (r : Bool)

/-- What a device gives to wait for one end of a flight, and what it has then. -/
def waitPre (O : CellTallies nD τ sig Unit) : sProp 𝕄 :=
  iprop(atPos ER (cell c (some (f, r))) 0 ∅ 0 ∗ cred (tallyAt (cell c (some (f, r))) () (amt f.2)) ∗ Owes c O)
def waitPost (O : CellTallies nD τ sig Unit) : sProp 𝕄 := iprop(semVal (cell c (some (f, r))) 0 ∗ flPay m c f r ∗ Owes c O)

/-- One end of a flight is awaited, everything still owed being to later hops. -/
theorem wait_run {sp : Space} {sh : Shape} {M : Memref sig .tc sp sh .fp8e4m3} (hM : M.view.dmaCredit = amt f.2)
    {hsrc : M.view.WordExact} {hdst : M.view.WordExact} (hO : Above (keyLv (some (f, r)) + 1) O) :
    iprop(records m K ∗ waitPre c f r O) ⊢ iprop((waitPost m c f r O -∗ Q ⟨⟩) -∗ runs c (Prog.lift (.waitDma2 (ix f r) M M hsrc hdst)) Q) := by
  have hl : lv ((c : Thread nD τ), keySem (some (f, r))) () = keyLv (some (f, r)) := lv_cell c _
  have hm : records m K ⊢ MayWait (c : Thread nD τ) (keySem (some (f, r))) () O := by
    have h₁ : Above (lv ((c : Thread nD τ), keySem (some (f, r))) () + 1) O := by rw [hl]; exact hO
    exact records_mayWait m K c _ h₁
  unfold waitPre waitPost Owes
  iintro ⟨#HR, Hat, Hc, ⟨%W, HO⟩⟩ Hk
  iapply (Rounds.wp_wait_rest_token 𝒱₀ ER (Rd m) (c : Thread nD τ) none (sm := keySem (some (f, r))) (κ := K (c, some (f, r)))
      (wpE_waitDma2_eq 𝒱₀ (c : Thread nD τ) none Set.univ) (Set.mem_univ _) () (O := O) (W := W) (R := 0) (m := 0) (T := ∅)
      (by rw [Nat.zero_add, expect_fl]; exact hM)) $$ [Hc HO Hat]
  · isplitr; · iapply (records_inv m K c (some (f, r))); iexact HR
    isplitl [Hc]; · rw [hM]; iexact Hc
    isplitl [HO]; · iexact HO
    isplitr
    · iapply hm; iexact HR
    iexact Hat
  iintro ⟨HO, Hat, -, Hpay⟩
  ihave Hp := (Entails.of_eq (rest_fl m c f r)) $$ Hpay
  imod (Rounds.cell_close ER (Rd m) (Set.mem_univ (K (c, some (f, r)))) (fun h => h) (R := 0 + 1) (duties_later m (cell c (some (f, r))))) $$ [Hat] with Hz
  · isplitr; · iapply (records_inv m K c (some (f, r))); iexact HR
    iexact Hat
  iapply (runs_ret c)
  iapply Hk
  isplitl [Hz]; · iexact Hz
  isplitl [Hp]; · iexact Hp
  iexists _; iexact HO

variable (k : Hop)

theorem xWait_run {o : Fin 2 → ℕ} (hi : ∀ a, o a + S4096x256.size a ≤ S4096x4096.size a)
    (hw : (Rect.unit (s := S4096x4096) o S4096x256.size hi).WholeWords (EltTy.packing .fp8e4m3))
    {s : DmaSem sig} (hs : s = ix (k, false) r) (hO : Above (keyLv (some ((k, false), r)) + 1) O) :
    iprop(records m K ∗ waitPre c (k, false) r O) ⊢ iprop((waitPost m c (k, false) r O -∗ Q ⟨⟩) -∗ runs c (xWait o hi hw s) Q) := by
  subst hs
  exact wait_run m K c Q (k, false) r (M := xView o hi) rfl hO

theorem wWait_run {o : Fin 2 → ℕ} (hi : ∀ a, o a + S256x8192.size a ≤ S4096x8192.size a)
    (hw : (Rect.unit (s := S4096x8192) o S256x8192.size hi).WholeWords (EltTy.packing .fp8e4m3))
    {s : DmaSem sig} (hs : s = ix (k, true) r) (hO : Above (keyLv (some ((k, true), r)) + 1) O) :
    iprop(records m K ∗ waitPre c (k, true) r O) ⊢ iprop((waitPost m c (k, true) r O -∗ Q ⟨⟩) -∗ runs c (wWait o hi hw s) Q) := by
  subst hs
  exact wait_run m K c Q (k, true) r (M := wView o hi) rfl hO

end Wait

/-! ## The barrier -/

section Meet

variable (Q : PUnit.{1} → sProp (MT nD τ sig Unit (Elt F) ℕ UU ℕ))

/-- A count of one at the barrier of device `n`, with what it hands over. -/
theorem count_run (n : Dev nD) (d : Bool) (O : CellTallies nD τ sig Unit) :
    iprop(records m K ∗ Owes c (O + tallyAt (cell n none) () 1) ∗ dutyTok ER (cell n none) 0 d ∗ barPay n d)
      ⊢ iprop((Owes c O -∗ Q ⟨⟩) -∗ runs c (semSignalWord n (SemArray.scalar (sig.barrier 0 rfl) : Sems sig S_).sem 1#32) Q) := by
  have hp : (barPay n d : sProp 𝕄) ⊢ (Rd m).payload ((n : Thread nD τ), .reg barS) 0 d := Entails.of_eq (payload_cell m n none 0 d).symm
  unfold Owes
  iintro ⟨#HR, ⟨%W, HO⟩, Ht, Hp⟩ Hk
  iapply (Rounds.wp_signal 𝒱₀ ER (Rd m) (c : Thread nD τ) none (dst := (n : Thread nD τ)) (κ := K (n, none)) (r := 0) (d := d)
      (by have h := duties_cell m n none; exact h ▸ Finset.mem_univ d) ((amount_cell m n none 0 d).trans (by decide)) () O rfl (W := W)) $$ [HO Ht Hp]
  · isplitr; · iapply (records_inv m K n none); iexact HR
    isplitl [HO]; · iexact HO
    isplitl [Ht]; · iexact Ht
    isplitl [Hp]
    · iapply hp; iexact Hp
    iapply (records_reached m K n none); iexact HR
  iintro HO
  iapply (runs_ret c)
  iapply Hk
  iexists W; iexact HO

/-- What a device brings to the barrier: the counts it owes its neighbours, every strip of its two arrays but its own,
    and the credit of its own two counts. -/
def meetPre : sProp 𝕄 :=
  iprop((dutyTok ER (cell (rot c 15) none) 0 true ∗ dutyTok ER (cell (rot c 1) none) 0 false)
    ∗ (bigSep Finset.univ fun f : Fl => room f.2 c (got c f.1))
    ∗ atPos ER (cell c none) 0 ∅ 0 ∗ cred (tallyAt (cell c none) () 2) ∗ Owes c (owed₀ c))

/-- What it has after: the semaphore at zero, and where every copy it will send lands. -/
def meetPost : sProp 𝕄 :=
  iprop(semVal (cell c none) 0 ∗ (bigSep Finset.univ fun f : Fl => landing c f) ∗ Owes c (owedFrom c 0))

omit [FloatOps F] in
/-- A sum over the flights is one over the right-going ones and one over the left-going ones. -/
theorem flights_split (Φ : Fl → sProp 𝕄) : bigSep Finset.univ Φ
    = iprop((bigSep Finset.univ fun p : Fin 8 × Bool => Φ (.inl p.1, p.2)) ∗ bigSep Finset.univ fun p : Fin 7 × Bool => Φ (.inr p.1, p.2)) := by
  rw [bigSep_univ_equiv (Equiv.sumProdDistrib (Fin 8) (Fin 7) Bool).symm, bigSep_univ_sum]
  rfl

omit [FloatOps F] in
/-- Where a neighbour's copies land are the strips this device receives. -/
theorem barPay_eq : (barPay (rot c 15) true : sProp 𝕄) = (bigSep Finset.univ fun p : Fin 8 × Bool => room p.2 c (got c (.inl p.1)))
    ∧ (barPay (rot c 1) false : sProp 𝕄) = bigSep Finset.univ fun p : Fin 7 × Bool => room p.2 c (got c (.inr p.1)) := by
  have e : ∀ f : Fl, (landing (frm c f.1) f : sProp 𝕄) = room f.2 c (got c f.1) := fun f => by unfold landing; rw [dst_frm, src_frm]
  exact ⟨bigSep_congr fun p _ => e (.inl p.1, p.2), bigSep_congr fun p _ => e (.inr p.1, p.2)⟩

omit [FloatOps F] in
theorem landings_eq : (bigSep Finset.univ fun f : Fl => landing c f : sProp 𝕄) = iprop(barPay c true ∗ barPay c false) := flights_split _

theorem meet_run {n₁ n₂ : Dev nD} (h₁ : n₁ = rot c 15) (h₂ : n₂ = rot c 1) :
    iprop(records m K ∗ meetPre c) ⊢ iprop((meetPost c -∗ Q ⟨⟩) -∗ runs c (meet n₁ n₂) Q) := by
  subst h₁ h₂
  have hl : lv ((c : Thread nD τ), keySem none) () = keyLv none := lv_cell c none
  have hm : records m K ⊢ MayWait (c : Thread nD τ) (keySem none) () (owedFrom c 0) :=
    records_mayWait m K c _ (by rw [hl]; exact above_from c 0)
  have hb := barPay_eq (F := F) c
  unfold meetPre meetPost
  rw [flights_split, landings_eq, ← hb.1, ← hb.2]
  iintro ⟨#HR, ⟨Ht₁, Ht₂⟩, ⟨Hp₁, Hp₂⟩, Hat, Hc, HO⟩ Hk
  unfold meet
  rw [runs_seq]
  iapply (count_run m K c _ (rot c 15) true (owedFrom c 0 + tallyAt (cell (rot c 1) none) () 1)) $$ [HO Ht₁ Hp₁]
  · isplitr; · iexact HR
    isplitl [HO]; · iexact HO
    isplitl [Ht₁]; · iexact Ht₁
    iexact Hp₁
  iintro HO
  rw [runs_seq]
  iapply (count_run m K c _ (rot c 1) false (owedFrom c 0)) $$ [HO Ht₂ Hp₂]
  · isplitr; · iexact HR
    isplitl [HO]; · iexact HO
    isplitl [Ht₂]; · iexact Ht₂
    iexact Hp₂
  unfold Owes
  iintro ⟨%W, HO⟩
  iapply (Rounds.wp_wait_rest_token 𝒱₀ ER (Rd m) (c : Thread nD τ) none (sm := keySem none) (κ := K (c, none))
      (wpE_semWait_eq 𝒱₀ (c : Thread nD τ) none Set.univ) (Set.mem_univ _) () (O := owedFrom c 0) (W := W) (R := 0) (m := 0) (T := ∅)
      (by rw [expect_bar]; decide)) $$ [Hc HO Hat]
  · isplitr; · iapply (records_inv m K c none); iexact HR
    isplitl [Hc]; · iexact Hc
    isplitl [HO]; · iexact HO
    isplitr
    · iapply hm; iexact HR
    iexact Hat
  iintro ⟨HO, Hat, -, Hpay⟩
  ihave Hp := (Entails.of_eq (rest_bar m c)) $$ Hpay
  icases Hp with ⟨Hf, Ht⟩
  imod (Rounds.cell_close ER (Rd m) (Set.mem_univ (K (c, none))) (fun h => h) (R := 0 + 1) (duties_later m (cell c none))) $$ [Hat] with Hz
  · isplitr; · iapply (records_inv m K c none); iexact HR
    iexact Hat
  iapply (runs_ret c)
  iapply Hk
  isplitl [Hz]; · iexact Hz
  isplitl [Hf Ht]
  · isplitl [Ht]; · iexact Ht
    iexact Hf
  iexists _; iexact HO

end Meet

end Cert.KernelIdeal.Ag

end
-- ==== Proof.Local.lean ====
/-
  Copies inside one device: starting one and waiting for it, for any source and destination; and the copy of a device's
  own two blocks into their strips of the gathered arrays.
-/
module

public import proofs.«01_k».proof.Proof.Steps

@[expose] public section

noncomputable section

namespace Cert.KernelIdeal.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)
  (Q : PUnit.{1} → sProp (MT nD τ sig Unit (Elt F) ℕ UU ℕ))

section Copy

variable {sp sp' : Space} {sh : Shape} {e : EltTy} {A : Memref sig .tc sp sh e} {B : Memref sig .tc sp' sh e} (s : DmaSem sig)

/-- A started copy from `A` to `B`: when it is waited for, `B` holds what `A` did, and `A`'s elements come back. -/
def started (A : Memref sig .tc sp sh e) (B : Memref sig .tc sp' sh e) (q : PosShare TreeShare) (fs : Buf (Elt F) (A.view.loc (c : Thread nD τ)))
    (fd : Buf (Elt F) (B.view.loc (c : Thread nD τ))) : sProp 𝕄 :=
  Transfers.Flight EC (c : Thread nD τ) (.dma s) () B.view.dmaCredit
    iprop((B.view.loc (c : Thread nD τ) ↦[B.view.set]{fullShare} B.view.write (Elt F) fd (A.view.read (Elt F) fs) Finset.univ)
      ∗ (A.view.loc (c : Thread nD τ) ↦[A.view.set]{q} fs))

theorem start_run {q : PosShare TreeShare} {fs : Buf (Elt F) (A.view.loc (c : Thread nD τ))} (hB : 0 < sh.numel)
    {hsrc : A.view.WordExact} {hdst : B.view.WordExact} {hsem : DmaTarget.Typed (nD := nD) (p := .tc) sp (.dma s) (.here B)} :
    iprop((A.view.loc (c : Thread nD τ) ↦[A.view.set]{q} fs) ∗ anyAt (B.view.loc (c : Thread nD τ)) B.view.set ∗ semVal ((c : Thread nD τ), .dma s) 0)
      ⊢ iprop(((∃ fd, started c s A B q fs fd) -∗ Q ⟨⟩) -∗ runs c (Prog.lift (.enqueueDma A (.here B) (.dma s) hsrc hdst hsem)) Q) := by
  unfold anyAt
  iintro ⟨Ha, ⟨%fd, Hb⟩, Hs⟩ Hk
  iapply (Transfers.wp_dmaLocal EC 𝒱₀ (c : Thread nD τ) none () B.view.dmaCredit rfl (View.dmaCredit_pos _ hB) (Finset.Subset.refl _)) $$ [Ha Hb Hs]
  · isplitl [Ha]; · iexact Ha
    isplitl [Hb]; · iexact Hb
    iexact Hs
  iintro HF
  iapply (runs_ret c)
  iapply Hk
  iexists fd
  unfold started
  iexact HF

theorem finish_run {q : PosShare TreeShare} {fs : Buf (Elt F) (A.view.loc (c : Thread nD τ))} {fd : Buf (Elt F) (B.view.loc (c : Thread nD τ))}
    {O : CellTallies nD τ sig Unit} (hO : Above 1 O) (hs : keyOf (.dma s) = none)
    {hsrc : A.view.WordExact} {hdst : B.view.WordExact} :
    iprop(records m K ∗ started c s A B q fs fd ∗ Owes c O)
      ⊢ iprop(((B.view.loc (c : Thread nD τ) ↦[B.view.set]{fullShare} B.view.write (Elt F) fd (A.view.read (Elt F) fs) Finset.univ)
          ∗ (A.view.loc (c : Thread nD τ) ↦[A.view.set]{q} fs) ∗ semVal ((c : Thread nD τ), .dma s) 0 ∗ Owes c O -∗ Q ⟨⟩)
        -∗ runs c (Prog.lift (.waitDma2 s A B hsrc hdst)) Q) := by
  have hl : lv ((c : Thread nD τ), .dma s) () = 0 := by unfold lv; rw [hs]; rfl
  have hm : records m K ⊢ MayWait (c : Thread nD τ) (.dma s) () O := records_mayWait m K c _ (by rw [hl]; exact hO)
  unfold started Owes
  iintro ⟨#HR, HF, ⟨%W, HO⟩⟩ Hk
  iapply (Transfers.wp_waitLocalO EC 𝒱₀ (c : Thread nD τ) none () rfl (O := O) (W := W)) $$ [HF HO]
  · isplitl [HF]; · iexact HF
    isplitl [HO]; · iexact HO
    iapply hm; iexact HR
  iintro ⟨⟨Hb, Ha⟩, Hs, HO⟩
  iapply (runs_ret c)
  iapply Hk
  isplitl [Hb]; · iexact Hb
  isplitl [Ha]; · iexact Ha
  isplitl [Hs]; · iexact Hs
  iexists _; iexact HO

end Copy

/-! ## The device's own blocks -/

section Own

variable {arg2 : Memref sig .tc .vmem S4096x256 .fp8e4m3} {arg3 : Memref sig .tc .vmem S256x8192 .fp8e4m3}

/-- The two staged blocks, whole. -/
def blocksIn (arg2 : Memref sig .tc .vmem S4096x256 .fp8e4m3) (arg3 : Memref sig .tc .vmem S256x8192 .fp8e4m3)
    (f₂ : Buf (Elt F) (arg2.view.loc (c : Thread nD τ))) (f₃ : Buf (Elt F) (arg3.view.loc (c : Thread nD τ))) : sProp 𝕄 :=
  iprop((arg2.view.loc (c : Thread nD τ) ↦[arg2.view.set]{fullShare} f₂) ∗ (arg3.view.loc (c : Thread nD τ) ↦[arg3.view.set]{fullShare} f₃))

/-- The two semaphores of these copies at zero. -/
def ownSems : sProp 𝕄 := iprop(semVal ((c : Thread nD τ), .dma cc0_scratch2.sem) 0 ∗ semVal ((c : Thread nD τ), .dma cc0_scratch3.sem) 0)

theorem own_run (i : grid0.Coords) (hc : k0_cond1 i = 1#1) (h₂ : arg2.IsWhole) (h₃ : arg3.IsWhole)
    {f₂ : Buf (Elt F) (arg2.view.loc (c : Thread nD τ))} {f₃ : Buf (Elt F) (arg3.view.loc (c : Thread nD τ))}
    (e₂ : arg2.view.read (Elt F) f₂ = m ((c : Thread nD τ).loc main_arg0)) (e₃ : arg3.view.read (Elt F) f₃ = m ((c : Thread nD τ).loc main_arg1))
    {O : CellTallies nD τ sig Unit} (hO : Above 1 O) :
    iprop(records m K ∗ blocksIn c arg2 arg3 f₂ f₃ ∗ (room false c c ∗ room true c c) ∗ ownSems c ∗ Owes c O)
      ⊢ iprop((blocksIn c arg2 arg3 f₂ f₃ ∗ (blk m false c c fullShare ∗ blk m true c c fullShare) ∗ ownSems c ∗ Owes c O -∗ Q ⟨⟩)
        -∗ runs c (own i hc c arg2 h₂ arg3 h₃) Q) := by
  unfold own xCopy wCopy xCopied wCopied
  simp only [off1_eq c, off2_eq c]
  have hx : (room false c c : sProp 𝕄) = anyAt ((xStrip c).view.loc (c : Thread nD τ)) (xStrip c).view.set := (isStrip_x m c).roomy c
  have hw : (room true c c : sProp 𝕄) = anyAt ((wStrip c).view.loc (c : Thread nD τ)) (wStrip c).view.set := (isStrip_w m c).roomy c
  unfold ownSems blocksIn
  rw [hx, hw]
  iintro ⟨#HR, ⟨H2, H3⟩, ⟨Hx, Hw⟩, ⟨Hs, Hs'⟩, HO⟩ Hk
  rw [runs_seq]
  iapply (start_run c _ (A := arg2) (B := xStrip c) cc0_scratch2.sem (by decide)) $$ [H2 Hx Hs]
  · isplitl [H2]; · iexact H2
    isplitl [Hx]; · iexact Hx
    iexact Hs
  iintro ⟨%fx, HFx⟩
  rw [runs_seq]
  iapply (start_run c _ (A := arg3) (B := wStrip c) cc0_scratch3.sem (by decide)) $$ [H3 Hw Hs']
  · isplitl [H3]; · iexact H3
    isplitl [Hw]; · iexact Hw
    iexact Hs'
  iintro ⟨%fw, HFw⟩
  rw [runs_seq]
  iapply (finish_run m K c _ (A := arg2) (B := xStrip c) cc0_scratch2.sem hO (by decide)) $$ [HFx HO]
  · isplitr; · iexact HR
    isplitl [HFx]; · iexact HFx
    iexact HO
  iintro ⟨Hx, H2, Hs, HO⟩
  iapply (finish_run m K c _ (A := arg3) (B := wStrip c) cc0_scratch3.sem hO (by decide)) $$ [HFw HO]
  · isplitr; · iexact HR
    isplitl [HFw]; · iexact HFw
    iexact HO
  iintro ⟨Hw, H3, Hs', HO⟩
  iapply Hk
  isplitl [H2 H3]
  · isplitl [H2]; · iexact H2
    iexact H3
  isplitl [Hx Hw]
  · isplitl [Hx]
    · iapply (x_written m c c fx); rw [e₂]; iexact Hx
    iapply (w_written m c c fw); rw [e₃]; iexact Hw
  isplitl [Hs Hs']
  · isplitl [Hs]; · iexact Hs
    iexact Hs'
  iexact HO

end Own

end Cert.KernelIdeal.Ag

end
-- ==== Proof.Gather.lean ====
/-
  The ring gather: one hop of one chain, the two chains together, the eight hops in order, and what a device holds when
  they are over: both gathered arrays whole.
-/
module

public import proofs.«01_k».proof.Proof.Local

@[expose] public section

noncomputable section

namespace Cert.KernelIdeal.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)
  (Q : PUnit.{1} → sProp (MT nD τ sig Unit (Elt F) ℕ UU ℕ))

/-- Strip `s` of both arrays. -/
def both (s : Dev nD) (q : PosShare TreeShare) : sProp 𝕄 := iprop(blk m false c s q ∗ blk m true c s q)

/-- What one hop of one chain needs, for its two copies, and the credits it has between sending and waiting. -/
def toStart (k : Hop) : sProp 𝕄 := iprop(toSend c (k, false) ∗ toSend c (k, true))
def toEnd (k : Hop) : sProp 𝕄 := iprop(toWait c (k, false) ∗ toWait c (k, true))
def sent (k : Hop) : sProp 𝕄 :=
  iprop(cred (tallyAt (cell c (some ((k, false), false))) () (amt false)) ∗ cred (tallyAt (cell c (some ((k, true), false))) () (amt true)))

/-- What it leaves: the two semaphores of each copy at zero, the lent half of the strips sent, and the other half of the
    strips received; the lent half of these goes on. -/
def zeros (k : Hop) : sProp 𝕄 :=
  iprop((semVal (cell c (some ((k, false), false))) 0 ∗ semVal (cell c (some ((k, false), true))) 0)
    ∗ semVal (cell c (some ((k, true), false))) 0 ∗ semVal (cell c (some ((k, true), true))) 0)
def ended (k : Hop) : sProp 𝕄 := iprop(zeros c k ∗ both m c (src c k) (lent k) ∗ both m c (got c k) (kept k))

/-- A hop of a chain starts: its activation copy, then its weight copy. -/
theorem starts_run (k : Hop) (O : CellTallies nD τ sig Unit) {px pw : Pg F PUnit.{1}}
    (hx : ∀ O Q, iprop(records m K ∗ sendPre m c O (k, false)) ⊢ iprop((sendPost c O (k, false) -∗ Q ⟨⟩) -∗ runs c px Q))
    (hw : ∀ O Q, iprop(records m K ∗ sendPre m c O (k, true)) ⊢ iprop((sendPost c O (k, true) -∗ Q ⟨⟩) -∗ runs c pw Q)) {rest : Pg F PUnit.{1}} :
    iprop(records m K ∗ toStart c k ∗ both m c (src c k) (lent k) ∗ Owes c (O + flOwed c (k, true) + flOwed c (k, false)))
      ⊢ iprop((sent c k ∗ Owes c O -∗ runs c rest Q) -∗ runs c (do px; pw; rest) Q) := by
  unfold toStart both sent
  iintro ⟨#HR, ⟨Hx, Hw⟩, ⟨Bx, Bw⟩, HO⟩ Hk
  rw [runs_seq]
  iapply (hx (O + flOwed c (k, true)) _) $$ [Hx Bx HO]
  · isplitr; · iexact HR
    unfold sendPre
    isplitl [Hx]; · iexact Hx
    isplitl [Bx]; · iexact Bx
    iexact HO
  unfold sendPost
  iintro ⟨Cx, HO⟩
  rw [runs_seq]
  iapply (hw O _) $$ [Hw Bw HO]
  · isplitr; · iexact HR
    unfold sendPre
    isplitl [Hw]; · iexact Hw
    isplitl [Bw]; · iexact Bw
    iexact HO
  unfold sendPost
  iintro ⟨Cw, HO⟩
  iapply Hk
  isplitl [Cx Cw]
  · isplitl [Cx]; · iexact Cx
    iexact Cw
  iexact HO

/-- A hop of a chain ends: the two waits for each of its copies. -/
theorem ends_run (k : Hop) {O : CellTallies nD τ sig Unit} (hO : Above (2 + num k + 1) O) {px px' pw pw' : Pg F PUnit.{1}}
    (hx : ∀ Q, iprop(records m K ∗ waitPre c (k, false) false O) ⊢ iprop((waitPost m c (k, false) false O -∗ Q ⟨⟩) -∗ runs c px Q))
    (hx' : ∀ Q, iprop(records m K ∗ waitPre c (k, false) true O) ⊢ iprop((waitPost m c (k, false) true O -∗ Q ⟨⟩) -∗ runs c px' Q))
    (hw : ∀ Q, iprop(records m K ∗ waitPre c (k, true) false O) ⊢ iprop((waitPost m c (k, true) false O -∗ Q ⟨⟩) -∗ runs c pw Q))
    (hw' : ∀ Q, iprop(records m K ∗ waitPre c (k, true) true O) ⊢ iprop((waitPost m c (k, true) true O -∗ Q ⟨⟩) -∗ runs c pw' Q)) :
    iprop(records m K ∗ toEnd c k ∗ sent c k ∗ Owes c O)
      ⊢ iprop((ended m c k ∗ both m c (got c k) (lent k) ∗ Owes c O -∗ Q ⟨⟩) -∗ runs c (do px; px'; pw; pw') Q) := by
  have hh : ∀ b, flPay m c (k, b) true ⊢ iprop(blk m b c (got c k) (lent k) ∗ blk m b c (got c k) (kept k)) := fun b => by
    cases k with
    | inl h => exact (blk_halves m b c (got c (.inl h))).1
    | inr h =>
      refine (blk_halves m b c (got c (.inr h))).1.trans ?_
      iintro ⟨H, H'⟩
      isplitl [H']; · iexact H'
      iexact H
  have hs : ∀ b, flPay m c (k, b) false ⊢ blk m b c (src c k) (lent k) := fun b => BI.Entails.refl _
  unfold toEnd toWait sent ended zeros both
  iintro ⟨#HR, ⟨⟨A1, A2, C2⟩, A3, A4, C4⟩, ⟨C1, C3⟩, HO⟩ Hk
  rw [runs_seq]
  iapply (hx _) $$ [A1 C1 HO]
  · isplitr; · iexact HR
    unfold waitPre
    isplitl [A1]; · iexact A1
    isplitl [C1]; · iexact C1
    iexact HO
  unfold waitPost
  iintro ⟨Z1, B1, HO⟩
  rw [runs_seq]
  iapply (hx' _) $$ [A2 C2 HO]
  · isplitr; · iexact HR
    unfold waitPre
    isplitl [A2]; · iexact A2
    isplitl [C2]; · iexact C2
    iexact HO
  unfold waitPost
  iintro ⟨Z2, B2, HO⟩
  rw [runs_seq]
  iapply (hw _) $$ [A3 C3 HO]
  · isplitr; · iexact HR
    unfold waitPre
    isplitl [A3]; · iexact A3
    isplitl [C3]; · iexact C3
    iexact HO
  unfold waitPost
  iintro ⟨Z3, B3, HO⟩
  iapply (hw' _) $$ [A4 C4 HO]
  · isplitr; · iexact HR
    unfold waitPre
    isplitl [A4]; · iexact A4
    isplitl [C4]; · iexact C4
    iexact HO
  unfold waitPost
  iintro ⟨Z4, B4, HO⟩
  ihave H2 := (hh false) $$ B2
  ihave H4 := (hh true) $$ B4
  icases H2 with ⟨L2, K2⟩
  icases H4 with ⟨L4, K4⟩
  iapply Hk
  isplitl [Z1 Z2 Z3 Z4 B1 B3 K2 K4]
  · isplitl [Z1 Z2 Z3 Z4]
    · isplitl [Z1 Z2]
      · isplitl [Z1]; · iexact Z1
        iexact Z2
      isplitl [Z3]; · iexact Z3
      iexact Z4
    isplitl [B1 B3]
    · isplitl [B1]; · iapply (hs false); iexact B1
      iapply (hs true); iexact B3
    isplitl [K2]; · iexact K2
    iexact K4
  isplitl [L2 L4]
  · isplitl [L2]; · iexact L2
    iexact L4
  iexact HO

section Hops

variable (i : grid0.Coords) (hc : k0_cond1 i = 1#1)

theorem rWaits_run (h : Fin 8) {O : CellTallies nD τ sig Unit} (hO : Above (2 + h.val + 1) O) :
    iprop(records m K ∗ toEnd c (.inl h) ∗ sent c (.inl h) ∗ Owes c O)
      ⊢ iprop((ended m c (.inl h) ∗ both m c (got c (.inl h)) (lent (.inl h)) ∗ Owes c O -∗ Q ⟨⟩) -∗ runs c (rWaits i hc c h) Q) :=
  have h0 : Above (0 + 1) O := above_mono hO (by omega)
  ends_run m K c Q (.inl h) hO
    (fun Q => xWait_run m K c Q false (.inl h) _ _ (sem_rx h).1 h0) (fun Q => xWait_run m K c Q true (.inl h) _ _ (sem_rx h).2 hO)
    (fun Q => wWait_run m K c Q false (.inl h) _ _ (sem_rw h).1 h0) (fun Q => wWait_run m K c Q true (.inl h) _ _ (sem_rw h).2 hO)

theorem lWaits_run (h : Fin 7) {O : CellTallies nD τ sig Unit} (hO : Above (2 + h.val + 1) O) :
    iprop(records m K ∗ toEnd c (.inr h) ∗ sent c (.inr h) ∗ Owes c O)
      ⊢ iprop((ended m c (.inr h) ∗ both m c (got c (.inr h)) (lent (.inr h)) ∗ Owes c O -∗ Q ⟨⟩) -∗ runs c (lWaits i hc c h) Q) :=
  have h0 : Above (0 + 1) O := above_mono hO (by omega)
  ends_run m K c Q (.inr h) hO
    (fun Q => xWait_run m K c Q false (.inr h) _ _ (sem_lx h).1 h0) (fun Q => xWait_run m K c Q true (.inr h) _ _ (sem_lx h).2 hO)
    (fun Q => wWait_run m K c Q false (.inr h) _ _ (sem_lw h).1 h0) (fun Q => wWait_run m K c Q true (.inr h) _ _ (sem_lw h).2 hO)

/-- The right-going chain starts hop `h`. -/
theorem rStarts_run (h : Fin 8) (O : CellTallies nD τ sig Unit) {n₁ n₂ : Dev nD} (h₁ : n₁ = rot c 1) (h₂ : n₂ = rot c 1) {rest : Pg F PUnit.{1}} :
    iprop(records m K ∗ toStart c (.inl h) ∗ both m c (src c (.inl h)) (lent (.inl h)) ∗ Owes c (O + flOwed c (.inl h, true) + flOwed c (.inl h, false)))
      ⊢ iprop((sent c (.inl h) ∗ Owes c O -∗ runs c rest Q) -∗ runs c (do rX i hc c h n₁; rW i hc c h n₂; rest) Q) :=
  starts_run m K c Q (.inl h) O
    (fun O Q => xSend_run m K c O Q (.inl h) (off3_eq c h) _ _ h₁ (sem_rx h).1 (sem_rx h).2)
    (fun O Q => wSend_run m K c O Q (.inl h) (off4_eq c h) _ _ h₂ (sem_rw h).1 (sem_rw h).2)

/-- The left-going chain starts hop `h`. -/
theorem lStarts_run (h : Fin 7) (O : CellTallies nD τ sig Unit) {n₁ n₂ : Dev nD} (h₁ : n₁ = rot c 15) (h₂ : n₂ = rot c 15) {rest : Pg F PUnit.{1}} :
    iprop(records m K ∗ toStart c (.inr h) ∗ both m c (src c (.inr h)) (lent (.inr h)) ∗ Owes c (O + flOwed c (.inr h, true) + flOwed c (.inr h, false)))
      ⊢ iprop((sent c (.inr h) ∗ Owes c O -∗ runs c rest Q) -∗ runs c (do lX i hc c h n₁; lW i hc c h n₂; rest) Q) :=
  starts_run m K c Q (.inr h) O
    (fun O Q => xSend_run m K c O Q (.inr h) (off5_eq c h) _ _ h₁ (sem_lx h).1 (sem_lx h).2)
    (fun O Q => wSend_run m K c O Q (.inr h) (off6_eq c h) _ _ h₂ (sem_lw h).1 (sem_lw h).2)

/-- What both chains have reached before hop `n`: one half of the strip each sends next. -/
def front (n : ℕ) : sProp 𝕄 := iprop(both m c (rot c (16 - n)) fullShare.left ∗ both m c (rot c n) fullShare.right)

/-- What hop `h` needs of both chains, and what it leaves. -/
def hopPre (h : Fin 7) : sProp 𝕄 := iprop((toStart c (.inl h.castSucc) ∗ toEnd c (.inl h.castSucc)) ∗ toStart c (.inr h) ∗ toEnd c (.inr h))
def hopPost (h : Fin 7) : sProp 𝕄 := iprop(ended m c (.inl h.castSucc) ∗ ended m c (.inr h))

theorem hop_run (h : Fin 7) {n₁ n₂ n₃ n₄ : Dev nD} (h₁ : n₁ = rot c 1) (h₂ : n₂ = rot c 1) (h₃ : n₃ = rot c 15) (h₄ : n₄ = rot c 15) :
    iprop(records m K ∗ front m c h.val ∗ hopPre c h ∗ Owes c (owedFrom c h.val))
      ⊢ iprop((front m c (h.val + 1) ∗ hopPost m c h ∗ Owes c (owedFrom c (h.val + 1)) -∗ Q ⟨⟩) -∗ runs c (hop i hc c h n₁ n₂ n₃ n₄) Q) := by
  have hO : Above (2 + h.val + 1) (owedFrom c (h.val + 1)) := above_from c h.succ
  have er : got c (.inl h.castSucc) = rot c (16 - (h.val + 1)) := src_right c h
  have el : got c (.inr h) = rot c (h.val + 1) := congrArg (rot c) (Nat.add_comm 1 h.val)
  rw [owedFrom_hop]
  unfold hop hopOwed front hopPre hopPost
  rw [← er, ← el]
  iintro ⟨#HR, ⟨Fr, Fl⟩, ⟨⟨Sr, Er⟩, Sl, El⟩, HO⟩ Hk
  iapply (rStarts_run m K c Q i hc h.castSucc (owedFrom c (h.val + 1) + flOwed c (.inr h, true) + flOwed c (.inr h, false)) h₁ h₂) $$ [Fr Sr HO]
  · isplitr; · iexact HR
    isplitl [Sr]; · iexact Sr
    isplitl [Fr]; · iexact Fr
    iexact HO
  iintro ⟨Cr, HO⟩
  iapply (lStarts_run m K c Q i hc h (owedFrom c (h.val + 1)) h₃ h₄) $$ [Fl Sl HO]
  · isplitr; · iexact HR
    isplitl [Sl]; · iexact Sl
    isplitl [Fl]; · iexact Fl
    iexact HO
  iintro ⟨Cl, HO⟩
  rw [runs_seq]
  iapply (lWaits_run m K c _ i hc h hO) $$ [El Cl HO]
  · isplitr; · iexact HR
    isplitl [El]; · iexact El
    isplitl [Cl]; · iexact Cl
    iexact HO
  iintro ⟨Dl, Fl, HO⟩
  iapply (rWaits_run m K c _ i hc h.castSucc hO) $$ [Er Cr HO]
  · isplitr; · iexact HR
    isplitl [Er]; · iexact Er
    isplitl [Cr]; · iexact Cr
    iexact HO
  iintro ⟨Dr, Fr, HO⟩
  iapply Hk
  isplitl [Fr Fl]
  · isplitl [Fr]; · iexact Fr
    iexact Fl
  isplitl [Dr Dl]
  · isplitl [Dr]; · iexact Dr
    iexact Dl
  iexact HO

/-- The last hop: the right-going chain alone, after which nothing is owed. -/
theorem lastHop_run {n₁ n₂ : Dev nD} (h₁ : n₁ = rot c 1) (h₂ : n₂ = rot c 1) :
    iprop(records m K ∗ both m c (rot c 9) fullShare.left ∗ (toStart c (.inl 7) ∗ toEnd c (.inl 7)) ∗ Owes c (owedFrom c 7))
      ⊢ iprop((ended m c (.inl 7) ∗ both m c (rot c 8) fullShare.left ∗ Owes c 0 -∗ Q ⟨⟩) -∗ runs c (lastHop i hc c n₁ n₂) Q) := by
  unfold lastHop
  iintro ⟨#HR, Fr, ⟨Sr, Er⟩, HO⟩ Hk
  iapply (rStarts_run m K c Q i hc 7 0 h₁ h₂) $$ [Fr Sr HO]
  · isplitr; · iexact HR
    isplitl [Sr]; · iexact Sr
    isplitl [Fr]; · iexact Fr
    iexact HO
  iintro ⟨Cr, HO⟩
  iapply (rWaits_run m K c _ i hc 7 (above_zero _)) $$ [Er Cr HO]
  · isplitr; · iexact HR
    isplitl [Er]; · iexact Er
    isplitl [Cr]; · iexact Cr
    iexact HO
  iintro ⟨Dr, Fr, HO⟩
  iapply Hk
  isplitl [Dr]; · iexact Dr
  isplitl [Fr]; · iexact Fr
  iexact HO

end Hops

end Cert.KernelIdeal.Ag

end
-- ==== Proof.Whole.lean ====
/-
  The gather from its first count to its last wait: the barrier, the device's own blocks, the seven full hops and the
  last one. Before it a device holds its own two blocks and lends the rest of both arrays; after it both arrays are
  whole, every semaphore of the exchange is at zero, and nothing is owed.
-/
module

public import proofs.«01_k».proof.Proof.Gather
public import Idealize.ShloMosaic.Lib.SparseCore.ProtocolKit

@[expose] public section

noncomputable section

namespace Cert.KernelIdeal.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo bigSep_finFrom_succ bigSep_finFrom_zero bigSep_finFrom_self bigSep_finUpTo_succ bigSep_finUpTo_zero bigSep_finUpTo_self)

variable {F : FTy → Type} [FloatOps F]

local notation "𝕄" => MT nD τ sig Unit (Elt F) ℕ UU ℕ

variable (m : (ℓ : Loc nD τ sig) → Buf (Elt F) ℓ) (K : Dev nD × Key → ℕ) (c : Dev nD)
  (Q : PUnit.{1} → sProp (MT nD τ sig Unit (Elt F) ℕ UU ℕ))

/-! ## Families over the hops -/

omit [FloatOps F] in
theorem same {A B : sProp 𝕄} (h : A ⊢ B) (h' : B ⊢ A) : A = B := equiv_iff.mp ⟨h, h'⟩

omit [FloatOps F] in
theorem swap (A B : sProp 𝕄) : iprop(A ∗ B) = iprop(B ∗ A) := same sep_symm sep_symm

omit [FloatOps F] in
theorem family_bool (a : Bool → sProp 𝕄) : bigSep Finset.univ a = iprop(a false ∗ a true) :=
  bigSep_univ_eq_bigSepL [false, true] (by decide) (by decide) a

omit [FloatOps F] in
theorem family_sum {A B : Type} [Fintype A] [Fintype B] (a : A ⊕ B → sProp 𝕄) :
    bigSep Finset.univ a = iprop((bigSep Finset.univ fun x => a (.inl x)) ∗ bigSep Finset.univ fun y => a (.inr y)) := bigSep_univ_sum a

omit [FloatOps F] in
/-- A family over `n + 1` places is its first `n` and its last, and its first and its last `n`. -/
theorem family_last {n : ℕ} (a : Fin (n + 1) → sProp 𝕄) :
    bigSep Finset.univ a = iprop((bigSep Finset.univ fun j : Fin n => a j.castSucc) ∗ a (Fin.last n)) := by
  rw [swap, Fin.univ_castSuccEmb, Finset.cons_eq_insert, BI.bigSep_insert (by simp), BI.bigSep_map]; rfl

omit [FloatOps F] in
theorem family_first {n : ℕ} (a : Fin (n + 1) → sProp 𝕄) :
    bigSep Finset.univ a = iprop(a 0 ∗ bigSep Finset.univ fun j : Fin n => a j.succ) := by
  rw [Fin.univ_succ, Finset.cons_eq_insert, BI.bigSep_insert (by simp), BI.bigSep_map]; rfl

omit [FloatOps F] in
/-- What a chain passes on, `f` being what it sends and `g` what it receives: all it sends and the last it received are
    the first it sent and all it received. -/
theorem family_turn {n : ℕ} (a : Fin (n + 1) → sProp 𝕄) (f g : Fin n → sProp 𝕄) {A B : sProp 𝕄} (hf : ∀ j, f j = a j.castSucc) (hg : ∀ j, g j = a j.succ)
    (hA : A = a 0) (hB : B = a (Fin.last n)) :
    iprop((bigSep Finset.univ f) ∗ B) = iprop(A ∗ bigSep Finset.univ g) := by
  rw [hA, hB, funext hf, funext hg]
  exact (family_last a).symm.trans (family_first a)

omit [FloatOps F] in
/-- A family over the devices is the device's own member and one for each hop. -/
theorem family_strips (Φ : Dev nD → sProp 𝕄) :
    bigSep Finset.univ Φ = iprop(Φ c ∗ (bigSep Finset.univ fun h : Fin 8 => Φ (got c (.inl h))) ∗ bigSep Finset.univ fun h : Fin 7 => Φ (got c (.inr h))) := by
  rw [swap, ← family_sum (fun k : Hop => Φ (got c k)), bigSep_univ_equiv ((Equiv.optionEquivSumPUnit.{0, 0} Hop).symm.trans (stripsEquiv c)), family_sum]
  exact congrArg (fun x => iprop((bigSep Finset.univ fun k : Hop => Φ (got c k)) ∗ x)) (bigSep_univ_of_subsingleton PUnit.unit)

omit [FloatOps F] in
/-- A family over the hops, as the seven full hops run it and the last one. -/
theorem family_hops (Φ : Hop → sProp 𝕄) :
    bigSep Finset.univ Φ = iprop((bigSep Finset.univ fun h : Fin 7 => iprop(Φ (.inl h.castSucc) ∗ Φ (.inr h))) ∗ Φ (.inl 7)) := by
  rw [family_sum, family_last (fun h : Fin 8 => Φ (.inl h)), bigSep_sep', show (Fin.last 7 : Fin 8) = 7 from rfl]
  refine same ?_ ?_
  · iintro ⟨⟨A, B⟩, C⟩
    isplitl [A C]
    · isplitl [A]; · iexact A
      iexact C
    iexact B
  · iintro ⟨⟨A, C⟩, B⟩
    isplitl [A B]
    · isplitl [A]; · iexact A
      iexact B
    iexact C

/-! ## The seven full hops -/

section Run

variable (i : grid0.Coords) (hc : k0_cond1 i = 1#1)

/-- What is held between hops: where the chains are, what the hops ahead need, what the hops behind left, and what is
    owed. -/
def between (n : ℕ) : sProp 𝕄 :=
  iprop(front m c n ∗ bigSep (finFrom 7 n) (hopPre c) ∗ bigSep (finUpTo 7 n) (hopPost m c) ∗ Owes c (owedFrom c n))

theorem hop_step (h : Fin 7) {n₁ n₂ n₃ n₄ : Dev nD} (h₁ : n₁ = rot c 1) (h₂ : n₂ = rot c 1) (h₃ : n₃ = rot c 15) (h₄ : n₄ = rot c 15) {rest : Pg F PUnit.{1}} :
    iprop(records m K ∗ between m c h.val)
      ⊢ iprop((between m c (h.val + 1) -∗ runs c rest Q) -∗ runs c (do hop i hc c h n₁ n₂ n₃ n₄; rest) Q) := by
  unfold between
  rw [bigSep_finFrom_succ h.isLt, bigSep_finUpTo_succ h.isLt]
  iintro ⟨#HR, Fr, ⟨Hh, Ha⟩, Hb, HO⟩ Hk
  rw [runs_seq]
  iapply (hop_run m K c _ i hc h h₁ h₂ h₃ h₄) $$ [Fr Hh HO]
  · isplitr; · iexact HR
    isplitl [Fr]; · iexact Fr
    isplitl [Hh]; · iexact Hh
    iexact HO
  iintro ⟨Fr, Hd, HO⟩
  iapply Hk
  isplitl [Fr]; · iexact Fr
  isplitl [Ha]; · iexact Ha
  isplitl [Hd Hb]
  · isplitl [Hd]; · iexact Hd
    iexact Hb
  iexact HO

/-! ## Before and after -/

/-- The rights to count a flight at both ends. -/
def toks (f : Fl) : sProp 𝕄 :=
  iprop(dutyTok ER (cell c (some (f, false))) 0 false ∗ dutyTok ER (cell (dst c f.1) (some (f, true))) 0 false)

variable {arg2 : Memref sig .tc .vmem S4096x256 .fp8e4m3} {arg3 : Memref sig .tc .vmem S256x8192 .fp8e4m3}

/-- What a device brings to the gather beside its two blocks. -/
def gatherPre : sProp 𝕄 :=
  iprop(meetPre c ∗ (room false c c ∗ room true c c) ∗ ownSems c ∗ (bigSep Finset.univ fun f : Fl => toks c f) ∗ bigSep Finset.univ fun f : Fl => toWait c f)

/-- What it has when the gather is over. -/
def gatherPost : sProp 𝕄 :=
  iprop((semVal (cell c none) 0 ∗ ownSems c ∗ bigSep Finset.univ fun k : Hop => zeros c k)
    ∗ (xLoc c ↦{fullShare} xAll m) ∗ (wLoc c ↦{fullShare} wAll m) ∗ Owes c 0)

omit [FloatOps F] in
/-- The landings that come from the barrier make every hop ready. -/
theorem ready : iprop((bigSep Finset.univ fun f : Fl => toks c f) ∗ (bigSep Finset.univ fun f : Fl => landing c f) ∗ bigSep Finset.univ fun f : Fl => toWait c f)
    ⊢ (iprop((bigSep Finset.univ fun h : Fin 7 => hopPre c h) ∗ toStart c (.inl 7) ∗ toEnd c (.inl 7)) : sProp 𝕄) := by
  have e : ∀ k : Hop, (bigSep Finset.univ fun b : Bool => iprop(toks c (k, b) ∗ landing c (k, b) ∗ toWait c (k, b)) : sProp 𝕄)
      ⊢ iprop(toStart c k ∗ toEnd c k) := fun k => by
    rw [family_bool]
    unfold toStart toEnd toSend toks
    iintro ⟨⟨⟨A, B⟩, C, D⟩, ⟨A', B'⟩, C', D'⟩
    isplitl [A B C A' B' C']
    · isplitl [A B C]
      · isplitl [A]; · iexact A
        isplitl [B]; · iexact B
        iexact C
      isplitl [A']; · iexact A'
      isplitl [B']; · iexact B'
      iexact C'
    isplitl [D]; · iexact D
    iexact D'
  have e' : (bigSep Finset.univ fun k : Hop => bigSep Finset.univ fun b : Bool => iprop(toks c (k, b) ∗ landing c (k, b) ∗ toWait c (k, b)) : sProp 𝕄)
      ⊢ bigSep Finset.univ fun k : Hop => iprop(toStart c k ∗ toEnd c k) := bigSep_mono fun k _ => e k
  rw [← bigSep_sep', ← bigSep_sep', bigSep_univ_prod]
  refine e'.trans ?_
  rw [family_hops]
  exact BI.Entails.refl _

/-- All that the hops leave, with the last strips received: the semaphores at zero and both arrays whole. -/
theorem collected : iprop((bigSep Finset.univ fun h : Fin 7 => hopPost m c h) ∗ ended m c (.inl 7) ∗ both m c (rot c 8) fullShare.left ∗ both m c (rot c 7) fullShare.right)
    ⊢ iprop((bigSep Finset.univ fun k : Hop => zeros c k) ∗ (xLoc c ↦{fullShare} xAll m) ∗ (wLoc c ↦{fullShare} wAll m)) := by
  have e0 : iprop((bigSep Finset.univ fun h : Fin 7 => hopPost m c h) ∗ ended m c (.inl 7)) = (bigSep Finset.univ fun k : Hop => ended m c k) :=
    (family_hops fun k => ended m c k).symm
  have e1 : (bigSep Finset.univ fun k : Hop => ended m c k) = iprop((bigSep Finset.univ fun k : Hop => zeros c k)
      ∗ (bigSep Finset.univ fun k : Hop => both m c (src c k) (lent k)) ∗ bigSep Finset.univ fun k : Hop => both m c (got c k) (kept k)) := by
    rw [← bigSep_sep', ← bigSep_sep']; rfl
  have r : iprop((bigSep Finset.univ fun h : Fin 8 => both m c (src c (.inl h)) fullShare.left) ∗ both m c (rot c 8) fullShare.left)
      = iprop(both m c c fullShare.left ∗ bigSep Finset.univ fun h : Fin 8 => both m c (got c (.inl h)) fullShare.left) :=
    family_turn (fun j : Fin 9 => both m c (rot c (16 - j.val)) fullShare.left) _ _ (fun _ => rfl)
      (fun j => congrArg (fun s => both m c s fullShare.left) (congrArg (rot c) (by rw [Fin.val_succ]; omega)))
      (congrArg (fun s => both m c s fullShare.left) (src_first c).1.symm) rfl
  have l : iprop((bigSep Finset.univ fun h : Fin 7 => both m c (src c (.inr h)) fullShare.right) ∗ both m c (rot c 7) fullShare.right)
      = iprop(both m c c fullShare.right ∗ bigSep Finset.univ fun h : Fin 7 => both m c (got c (.inr h)) fullShare.right) :=
    family_turn (fun j : Fin 8 => both m c (rot c j.val) fullShare.right) _ _ (fun _ => rfl)
      (fun j => congrArg (fun s => both m c s fullShare.right) (congrArg (rot c) (by rw [Fin.val_succ]; omega)))
      (congrArg (fun s => both m c s fullShare.right) (src_first c).2.symm) rfl
  have join : iprop((bigSep Finset.univ fun s : Dev nD => both m c s fullShare.left) ∗ bigSep Finset.univ fun s : Dev nD => both m c s fullShare.right)
      ⊢ iprop((xLoc c ↦{fullShare} xAll m) ∗ (wLoc c ↦{fullShare} wAll m)) := by
    have hb : ∀ s : Dev nD, iprop(both m c s fullShare.left ∗ both m c s fullShare.right) ⊢ iprop(blk m false c s fullShare ∗ blk m true c s fullShare) := fun s => by
      unfold both
      iintro ⟨⟨A, B⟩, A', B'⟩
      isplitl [A A']
      · iapply (blk_halves m false c s).2
        isplitl [A]; · iexact A
        iexact A'
      iapply (blk_halves m true c s).2
      isplitl [B]; · iexact B
      iexact B'
    have hb' : (bigSep Finset.univ fun s : Dev nD => iprop(both m c s fullShare.left ∗ both m c s fullShare.right))
        ⊢ bigSep Finset.univ fun s : Dev nD => iprop(blk m false c s fullShare ∗ blk m true c s fullShare) := bigSep_mono fun s _ => hb s
    rw [← bigSep_sep', ← blks_x, ← blks_w, ← bigSep_sep']
    exact hb'
  iintro ⟨Hh, He, Fl, Fr⟩
  ihave H := (Entails.of_eq (e0.trans e1)) $$ [Hh He]
  · isplitl [Hh]; · iexact Hh
    iexact He
  icases H with ⟨Hz, Hs, Hg⟩
  ihave Hs := (Entails.of_eq (family_sum _)) $$ Hs
  ihave Hg := (Entails.of_eq (family_sum _)) $$ Hg
  icases Hs with ⟨Sr, Sl⟩
  icases Hg with ⟨Gr, Gl⟩
  ihave L := (Entails.of_eq r) $$ [Sr Fl]
  · isplitl [Sr]; · iexact Sr
    iexact Fl
  ihave R := (Entails.of_eq l) $$ [Sl Fr]
  · isplitl [Sl]; · iexact Sl
    iexact Fr
  isplitl [Hz]; · iexact Hz
  iapply join
  icases L with ⟨L0, L1⟩
  icases R with ⟨R0, R1⟩
  isplitl [L0 L1 Gl]
  · iapply (Entails.of_eq (family_strips c fun s => both m c s fullShare.left).symm)
    isplitl [L0]; · iexact L0
    isplitl [L1]; · iexact L1
    iexact Gl
  iapply (Entails.of_eq (family_strips c fun s => both m c s fullShare.right).symm)
  isplitl [R0]; · iexact R0
  isplitl [Gr]; · iexact Gr
  iexact R1

set_option maxHeartbeats 400000 in
theorem gather_run (h₂ : arg2.IsWhole) (h₃ : arg3.IsWhole)
    {f₂ : Buf (Elt F) (arg2.view.loc (c : Thread nD τ))} {f₃ : Buf (Elt F) (arg3.view.loc (c : Thread nD τ))}
    (e₂ : arg2.view.read (Elt F) f₂ = m ((c : Thread nD τ).loc main_arg0)) (e₃ : arg3.view.read (Elt F) f₃ = m ((c : Thread nD τ).loc main_arg1)) :
    iprop(records m K ∗ blocksIn c arg2 arg3 f₂ f₃ ∗ gatherPre c)
      ⊢ iprop((blocksIn c arg2 arg3 f₂ f₃ ∗ gatherPost m c -∗ Q ⟨⟩) -∗ runs c (gather i hc c arg2 h₂ arg3 h₃) Q) := by
  obtain ⟨r2, r3, r4, r7, r8, r11, r12, r15, r16, r19, r20, r23, r24, r27, r28, r31, r32⟩ := rightDevs_dev i hc c
  obtain ⟨l1, l5, l6, l9, l10, l13, l14, l17, l18, l21, l22, l25, l26, l29, l30⟩ := leftDevs_dev i hc c
  have hf : iprop(blk m false c c fullShare ∗ blk m true c c fullShare) ⊢ front m c 0 := by
    unfold front both
    have h0 : rot c (16 - 0) = c := (src_first c).1
    have h0' : rot c 0 = c := (src_first c).2
    rw [h0, h0']
    iintro ⟨A, B⟩
    ihave A := (blk_halves m false c c).1 $$ A
    ihave B := (blk_halves m true c c).1 $$ B
    icases A with ⟨A, A'⟩
    icases B with ⟨B, B'⟩
    isplitl [A B]
    · isplitl [A]; · iexact A
      iexact B
    isplitl [A']; · iexact A'
    iexact B'
  unfold gatherPre gather
  iintro ⟨#HR, Hin, Hm, Hr, Hs, Ht, Hw⟩ Hk
  rw [runs_seq]
  iapply (meet_run m K c _ (l1) (r2)) $$ [Hm]
  · isplitr; · iexact HR
    iexact Hm
  unfold meetPost
  iintro ⟨Hz, Hl, HO⟩
  ihave Hy := (ready c) $$ [Ht Hl Hw]
  · isplitl [Ht]; · iexact Ht
    isplitl [Hl]; · iexact Hl
    iexact Hw
  icases Hy with ⟨Hh, Hlast⟩
  rw [runs_seq]
  iapply (own_run m K c _ i hc h₂ h₃ e₂ e₃ (O := owedFrom c 0) (above_mono (above_from c 0) (by decide))) $$ [Hin Hr Hs HO]
  · isplitr; · iexact HR
    isplitl [Hin]; · iexact Hin
    isplitl [Hr]; · iexact Hr
    isplitl [Hs]; · iexact Hs
    iexact HO
  iintro ⟨Hin, Hb, Hs, HO⟩
  ihave Hn := (show iprop(front m c 0 ∗ (bigSep Finset.univ fun h : Fin 7 => hopPre c h) ∗ Owes c (owedFrom c 0)) ⊢ between m c 0 from by
    unfold between
    rw [bigSep_finFrom_zero, bigSep_finUpTo_zero]
    iintro ⟨A, B, C⟩
    isplitl [A]; · iexact A
    isplitl [B]; · iexact B
    isplitr; · iempintro
    iexact C) $$ [Hb Hh HO]
  · isplitl [Hb]; · iapply hf; iexact Hb
    isplitl [Hh]; · iexact Hh
    iexact HO
  iapply (hop_step m K c _ i hc 0 r3 r4 l5 l6) $$ [Hn] <;> [(isplitr; (· iexact HR); iexact Hn); iintro Hn]
  iapply (hop_step m K c _ i hc 1 r7 r8 l9 l10) $$ [Hn] <;> [(isplitr; (· iexact HR); iexact Hn); iintro Hn]
  iapply (hop_step m K c _ i hc 2 r11 r12 l13 l14) $$ [Hn] <;> [(isplitr; (· iexact HR); iexact Hn); iintro Hn]
  iapply (hop_step m K c _ i hc 3 r15 r16 l17 l18) $$ [Hn] <;> [(isplitr; (· iexact HR); iexact Hn); iintro Hn]
  iapply (hop_step m K c _ i hc 4 r19 r20 l21 l22) $$ [Hn] <;> [(isplitr; (· iexact HR); iexact Hn); iintro Hn]
  iapply (hop_step m K c _ i hc 5 r23 r24 l25 l26) $$ [Hn] <;> [(isplitr; (· iexact HR); iexact Hn); iintro Hn]
  iapply (hop_step m K c _ i hc 6 r27 r28 l29 l30) $$ [Hn] <;> [(isplitr; (· iexact HR); iexact Hn); iintro Hn]
  ihave Hn := (show between m c ((6 : Fin 7).val + 1) ⊢ iprop((both m c (rot c 9) fullShare.left ∗ both m c (rot c 7) fullShare.right)
      ∗ (bigSep Finset.univ fun h : Fin 7 => hopPost m c h) ∗ Owes c (owedFrom c 7)) from by
    show between m c 7 ⊢ _
    unfold between front
    rw [bigSep_finFrom_self, bigSep_finUpTo_self]
    iintro ⟨A, -, B, C⟩
    isplitl [A]; · iexact A
    isplitl [B]; · iexact B
    iexact C) $$ Hn
  icases Hn with ⟨⟨Fr, Fl⟩, Hd, HO⟩
  iapply (lastHop_run m K c _ i hc (r31) (r32)) $$ [Fr Hlast HO]
  · isplitr; · iexact HR
    isplitl [Fr]; · iexact Fr
    isplitl [Hlast]; · iexact Hlast
    iexact HO
  iintro ⟨He, Fr, HO⟩
  ihave Hg := (collected m c) $$ [Hd He Fr Fl]
  · isplitl [Hd]; · iexact Hd
    isplitl [He]; · iexact He
    isplitl [Fr]; · iexact Fr
    iexact Fl
  icases Hg with ⟨Hzz, Hx, Hw⟩
  iapply Hk
  isplitl [Hin]; · iexact Hin
  unfold gatherPost
  isplitl [Hz Hs Hzz]
  · isplitl [Hz]; · iexact Hz
    isplitl [Hs]; · iexact Hs
    iexact Hzz
  isplitl [Hx]; · iexact Hx
  isplitl [Hw]; · iexact Hw
  iexact HO

end Run

end Cert.KernelIdeal.Ag

end
-- ==== Proof.Stage.lean ====
/-
  The staging of the gathered weight: which column block and which slot of the staging buffer each point names, what a slot
  holds once its copy has landed, and the run of the first point of a block of columns.
-/
module

public import proofs.«01_k».proof.Proof.Whole

@[expose] public section

noncomputable section

namespace Cert.KernelIdeal.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix2)

variable {F : FTy → Type} [FloatOps F]

local notation "𝕄" => MT nD τ sig Unit (Elt F) ℕ UU ℕ

/-! ## Which point does what -/

/-- Column block `n` of the gathered weight starts at column `1024 n`; it is staged in slot `n % 2`. -/
def bOff (n : Fin 8) : Fin 2 → ℕ := ![0, 1024 * n.val]
def sOff (n : ℕ) : Fin 3 → ℕ := ![n % 2, 0, 0]

theorem bOff_inb (n : Fin 8) : ∀ a, bOff n a + S4096x1024.size a ≤ S4096x8192.size a := by
  revert n; decide
theorem sOff_inb (n : ℕ) : ∀ a, sOff n a + S1x4096x1024.size a ≤ S2x4096x1024.size a := by
  have h : n % 2 < 2 := Nat.mod_lt _ (by decide)
  intro a
  match a with
  | ⟨0, _⟩ => show n % 2 + 1 ≤ 2; omega
  | ⟨1, _⟩ => show 0 + 4096 ≤ 4096; omega
  | ⟨2, _⟩ => show 0 + 1024 ≤ 1024; omega

/-- The block of columns of a point, and its block of rows. -/
abbrev nOf (t : Fin 64) : Fin 8 := ⟨t.val / 8, by omega⟩
abbrev mOf (t : Fin 64) : Fin 8 := ⟨t.val % 8, by omega⟩

abbrev at_ (t : Fin 64) : grid0.Coords := grid0.coords t

theorem cond1_iff (t : Fin 64) : k0_cond1 (at_ t) = 1#1 ↔ t.val = 0 := by revert t; decide
theorem cond2_iff (t : Fin 64) : k0_cond2 (at_ t) = 1#1 ↔ t.val % 8 = 0 := by revert t; decide
theorem cond3_iff (t : Fin 64) : cond3 (at_ t) = 1#1 ↔ t.val / 8 = 0 := by revert t; decide
theorem cond4_iff (t : Fin 64) : k0_cond4 (at_ t) = 1#1 ↔ t.val / 8 ≠ 0 := by revert t; decide
theorem cond5_iff (t : Fin 64) : k0_cond5 (at_ t) = 1#1 ↔ t.val / 8 < 7 := by revert t; decide

theorem off7_eq (t : Fin 64) : k0_off7 (at_ t) = sOff (nOf t).val := by revert t; decide
theorem off8_eq (t : Fin 64) : k0_off8 (at_ t) = bOff (nOf t) := by revert t; decide
theorem off9_eq (t : Fin 64) : k0_off9 (at_ t) = sOff ((nOf t).val + 1) := by revert t; decide
theorem off10_eq (t : Fin 64) : k0_off10 (at_ t) = ![0, 1024 * ((nOf t).val + 1)] := by revert t; decide
theorem off11_eq (t : Fin 64) : k0_off11 (at_ t) = ![512 * (mOf t).val, 0] := by revert t; decide
theorem off12_eq (t : Fin 64) : k0_off12 (at_ t) = sOff (nOf t).val := by revert t; decide

/-! ## The slots and the blocks -/

/-- Column block `n`, and the slot block `n` is staged in. -/
abbrev bB (n : Fin 8) : Memref sig .tc .hbm S4096x1024 .fp8e4m3 := bView (bOff n) (bOff_inb n)
abbrev sB (n : ℕ) : Memref sig .tc .vmem S4096x1024 .fp8e4m3 := sView (sOff n) (sOff_inb n)

def bSet (n : Fin 8) : Finset S4096x8192.Idx := (bB n).view.set
def sSet (n : ℕ) : Finset S2x4096x1024.Idx := (sB n).view.set

theorem bSet_disjoint (s s' : Fin 8) (h : s ≠ s') : Disjoint (bSet s) (bSet s') := by
  unfold bSet
  rw [View.set_slice_whole, View.set_slice_whole]
  exact Ring.lead_disjoint (s := S4096x8192) (NB := 8) 1 1024 bOff S4096x1024.size bOff_inb (fun _ => rfl) rfl s s' h

theorem bSet_cover : Finset.univ.biUnion bSet = Finset.univ := by
  have h : bSet = fun n : Fin 8 => (Rect.unit (s := S4096x8192) (bOff n) S4096x1024.size (bOff_inb n)).set := by
    funext n; unfold bSet; rw [View.set_slice_whole]
  rw [h]
  exact Ring.lead_cover (s := S4096x8192) (NB := 8) 1 1024 bOff S4096x1024.size bOff_inb (fun _ => rfl) (by decide) rfl (by decide) rfl

theorem sSet_eq (n : ℕ) : sSet n = (Rect.unit (s := S2x4096x1024) (sOff n) S1x4096x1024.size (sOff_inb n)).set := by
  unfold sSet
  exact (View.set_reshape _ _).trans (View.set_slice_whole _ _)

theorem sSet_two (n : ℕ) : sSet (n + 2) = sSet n := by
  rw [sSet_eq, sSet_eq]
  have h : sOff (n + 2) = sOff n := by unfold sOff; rw [Nat.add_mod_right]
  simp only [h]

variable (m : (ℓ : Loc nD τ sig) → Buf (Elt F) ℓ) (K : Dev nD × Key → ℕ) (c : Dev nD)
  (Q : PUnit.{1} → sProp (MT nD τ sig Unit (Elt F) ℕ UU ℕ))

abbrev sLoc (c : Dev nD) : Loc nD τ sig := (c : Thread nD τ).loc cc0_scratch1

/-- A slot that holds column block `n`: element `(_, k, j)` is element `(k, 1024 n + j)` of the gathered weight. -/
def stAll (n : Fin 8) : S2x4096x1024.Idx → Elt F .fp8e4m3 := fun y =>
  wAll m (ix2 (n0 := 4096) (n1 := 8192) (y 1) ⟨1024 * n.val + (y 2).val, by
    have h : (y 2).val < 1024 := (y 2).isLt
    have := n.isLt
    omega⟩)

theorem unsqueezed (h : S4096x1024.numel = S1x4096x1024.numel) (y : S4096x1024.Idx) :
    (Shape.reshapeEquiv h y : S1x4096x1024.Idx) = Fin.cons (0 : Fin 1) y := by
  exact Shape.reshapeEquiv_cons_one h y

omit [FloatOps F] in
theorem read_stAll (n : Fin 8) : (sB n.val).view.read (Elt F) (stAll m n) = (bB n).view.read (Elt F) (wAll m) := by
  funext y
  have e : (sB n.val).view.emb y = (Rect.unit (s := S2x4096x1024) (sOff n.val) S1x4096x1024.size (sOff_inb n.val)).emb (Fin.cons (0 : Fin 1) y) := by
    show (Rect.unit (s := S2x4096x1024) (sOff n.val) S1x4096x1024.size (sOff_inb n.val)).emb (Shape.reshapeEquiv _ y) = _
    rw [unsqueezed]
  show stAll m n ((sB n.val).view.emb y) = wAll m ((bB n).view.emb y)
  rw [e]
  unfold stAll
  refine congrArg (wAll m) (funext fun a => ?_)
  match a with
  | ⟨0, _⟩ => exact Fin.ext rfl
  | ⟨1, _⟩ => exact Fin.ext (by show 1024 * n.val + (0 + 1 * (y 1).val) = 1024 * n.val + 1 * (y 1).val; omega)

/-- The slot of block `n` holding it; that slot holding anything; column block `n` of the gathered weight. -/
def slot (n : Fin 8) : sProp 𝕄 := sLoc c ↦[sSet n.val]{fullShare} stAll m n
def slotAny (n : ℕ) : sProp 𝕄 := anyAt (sLoc c) (sSet n)
def col (n : Fin 8) : sProp 𝕄 := wLoc c ↦[bSet n]{fullShare} wAll m

omit [FloatOps F] in
theorem slotAny_two (n : ℕ) : (slotAny c (n + 2) : sProp 𝕄) = slotAny c n := by unfold slotAny; rw [sSet_two]
omit [FloatOps F] in
theorem slot_any (n : Fin 8) : slot m c n ⊢ slotAny c n.val := by
  unfold slot slotAny anyAt
  iintro H; iexists _; iexact H

omit [FloatOps F] in
theorem cols_eq : (wLoc c ↦{fullShare} wAll m : sProp 𝕄) = bigSep Finset.univ fun n : Fin 8 => col m c n :=
  Ring.pointsTo_blocks (ℓ := wLoc c) (q := fullShare) bSet bSet_disjoint bSet_cover (wAll m)

omit [FloatOps F] in
theorem slot_written (n : Fin 8) (fd : Buf (Elt F) (sLoc c)) :
    ((sB n.val).view.loc (c : Thread nD τ) ↦[(sB n.val).view.set]{fullShare}
        (sB n.val).view.write (Elt F) fd ((bB n).view.read (Elt F) (wAll m)) Finset.univ : sProp 𝕄) ⊢ slot m c n := by
  refine Entails.of_eq (pointsTo_congr fun i hi => ?_)
  obtain ⟨y, -, rfl⟩ := Finset.mem_map.mp hi
  exact View.eq_of_read_eq (congrFun ((View.read_write_univ _ _).trans (read_stAll m n).symm) y)

/-- A started copy of block `n` into its slot. -/
def coming (s : DmaSem sig) (n : Fin 8) : sProp 𝕄 :=
  iprop(∃ fd, started c s (bB n) (sB n.val) fullShare (wAll m) fd)

section Copies

variable {n : Fin 8} {o : Fin 2 → Nat} {hi : ∀ a, o a + S4096x1024.size a ≤ S4096x8192.size a}
  {hw : (Rect.unit (s := S4096x8192) o S4096x1024.size hi).WholeWords (EltTy.packing .fp8e4m3)}
  {o' : Fin 3 → Nat} {hi' : ∀ a, o' a + S1x4096x1024.size a ≤ S2x4096x1024.size a}
  {hw' : (Rect.unit (s := S2x4096x1024) o' S1x4096x1024.size hi').WholeWords (EltTy.packing .fp8e4m3)} (s : DmaSem sig)

theorem bCopy_run (ho : o = bOff n) (ho' : o' = sOff n.val) :
    iprop(col m c n ∗ slotAny c n.val ∗ semVal ((c : Thread nD τ), .dma s) 0)
      ⊢ iprop((coming m c s n -∗ Q ⟨⟩) -∗ runs c (bCopy o hi hw o' hi' hw' s) Q) := by
  subst ho ho'
  have h : (slotAny c n.val : sProp 𝕄) ⊢ anyAt ((sB n.val).view.loc (c : Thread nD τ)) (sB n.val).view.set := BI.Entails.refl _
  have h' : col m c n ⊢ ((bB n).view.loc (c : Thread nD τ) ↦[(bB n).view.set]{fullShare} wAll m) := BI.Entails.refl _
  unfold bCopy
  iintro ⟨Hc, Hs, Hv⟩ Hk
  iapply (start_run c Q (A := bB n) (B := sB n.val) s (by decide)) $$ [Hc Hs Hv]
  · isplitl [Hc]; · iapply h'; iexact Hc
    isplitl [Hs]; · iapply h; iexact Hs
    iexact Hv
  iintro HF
  iapply Hk
  unfold coming
  iexact HF

theorem bCopied_run (hs : keyOf (.dma s) = none) (ho : o = bOff n) (ho' : o' = sOff n.val) :
    iprop(records m K ∗ coming m c s n ∗ Owes c 0)
      ⊢ iprop((slot m c n ∗ semVal ((c : Thread nD τ), .dma s) 0 ∗ Owes c 0 -∗ Q ⟨⟩) -∗ runs c (bCopied o hi hw o' hi' hw' s) Q) := by
  subst ho ho'
  unfold bCopied coming
  iintro ⟨#HR, ⟨%fd, HF⟩, HO⟩ Hk
  iapply (finish_run m K c Q (A := bB n) (B := sB n.val) s (above_zero 1) hs) $$ [HF HO]
  · isplitr; · iexact HR
    isplitl [HF]; · iexact HF
    iexact HO
  iintro ⟨Hs, -, Hv, HO⟩
  iapply Hk
  isplitl [Hs]; · iapply (slot_written m c n fd); iexact Hs
  isplitl [Hv]; · iexact Hv
  iexact HO

end Copies

/-! ## One block of columns after another -/

/-- Block `n` before its first point: not yet started at the first block, on its way at a later one. -/
def arriving (n : Fin 8) : sProp 𝕄 :=
  if n.val = 0 then iprop(col m c n ∗ slotAny c n.val ∗ semVal ((c : Thread nD τ), .dma cc0_scratch5.sem) 0) else coming m c cc0_scratch5.sem n

/-- Block `n`, or what would hold it if it is one past the last. -/
def ahead (n : ℕ) : sProp 𝕄 :=
  if h : n < 8 then coming m c cc0_scratch5.sem ⟨n, h⟩ else iprop(slotAny c n ∗ semVal ((c : Thread nD τ), .dma cc0_scratch5.sem) 0)

/-- What the first point of block `n` starts from, -/
def stagePre (n : Fin 8) : sProp 𝕄 :=
  iprop(arriving m c n ∗ slotAny c (n.val + 1) ∗ (bigSep (finFrom 8 (n.val + 1)) fun j => col m c j)
    ∗ semVal ((c : Thread nD τ), .dma cc0_scratch4.sem) 0)

/-- and what it leaves. -/
def stagePost (n : Fin 8) : sProp 𝕄 :=
  iprop(slot m c n ∗ ahead m c (n.val + 1) ∗ (bigSep (finFrom 8 (n.val + 2)) fun j => col m c j)
    ∗ semVal ((c : Thread nD τ), .dma cc0_scratch4.sem) 0)

omit [FloatOps F] in
theorem stage_next (n : Fin 8) (h : n.val + 1 < 8) : stagePost m c n ⊢ stagePre m c ⟨n.val + 1, h⟩ := by
  unfold stagePost stagePre ahead arriving
  rw [dif_pos h, if_neg (Nat.succ_ne_zero _)]
  show _ ⊢ iprop(coming m c cc0_scratch5.sem ⟨n.val + 1, h⟩ ∗ slotAny c (n.val + 2) ∗ (bigSep (finFrom 8 (n.val + 2)) fun j => col m c j)
    ∗ semVal ((c : Thread nD τ), .dma cc0_scratch4.sem) 0)
  rw [slotAny_two]
  iintro ⟨A, B, C, D⟩
  isplitl [B]; · iexact B
  isplitl [A]; · iapply (slot_any m c n); iexact A
  isplitl [C]; · iexact C
  iexact D

/-- Where the first block has been dealt with: block `n` is in its slot, the next one not started. -/
def stageMid (n : Fin 8) : sProp 𝕄 :=
  iprop(slot m c n ∗ (slotAny c (n.val + 1) ∗ semVal ((c : Thread nD τ), .dma cc0_scratch5.sem) 0)
    ∗ (bigSep (finFrom 8 (n.val + 1)) fun j => col m c j) ∗ semVal ((c : Thread nD τ), .dma cc0_scratch4.sem) 0)

theorem nextPart_run (t : Fin 64) (h2 : k0_cond2 (at_ t) = 1#1) :
    stageMid m c (nOf t)
      ⊢ iprop((stagePost m c (nOf t) -∗ Q ⟨⟩) -∗ runs c (if h5 : k0_cond5 (at_ t) = 1#1 then nextBlock (at_ t) h2 h5 else pure ⟨⟩) Q) := by
  unfold stageMid stagePost ahead
  by_cases h : (nOf t).val + 1 < 8
  · have h5 : k0_cond5 (at_ t) = 1#1 := (cond5_iff t).mpr (by have : (nOf t).val = t.val / 8 := rfl; omega)
    have hs : (bigSep (finFrom 8 ((nOf t).val + 1)) fun j => col m c j)
        = iprop(col m c ⟨(nOf t).val + 1, h⟩ ∗ bigSep (finFrom 8 ((nOf t).val + 2)) fun j => col m c j) := bigSep_finFrom_succ h _
    rw [dif_pos h, dif_pos h5, hs]
    unfold nextBlock
    iintro ⟨A, ⟨B, B'⟩, ⟨C, C'⟩, D⟩ Hk
    iapply (bCopy_run m c Q (n := ⟨(nOf t).val + 1, h⟩) cc0_scratch5.sem (off10_eq t) (off9_eq t)) $$ [B B' C]
    · isplitl [C]; · iexact C
      isplitl [B]; · iexact B
      iexact B'
    iintro HF
    iapply Hk
    isplitl [A]; · iexact A
    isplitl [HF]; · iexact HF
    isplitl [C']; · iexact C'
    iexact D
  · have h5 : ¬ k0_cond5 (at_ t) = 1#1 := fun e => h (by have := (cond5_iff t).mp e; have : (nOf t).val = t.val / 8 := rfl; omega)
    have hs : (bigSep (finFrom 8 ((nOf t).val + 1)) fun j => col m c j) ⊢ (bigSep (finFrom 8 ((nOf t).val + 2)) fun j => col m c j) := by
      have e : finFrom 8 ((nOf t).val + 2) = ∅ := by
        unfold finFrom
        exact Finset.filter_eq_empty_iff.mpr fun j _ => by have := j.isLt; omega
      rw [e, bigSep_empty]
      iintro -; iempintro
    rw [dif_neg h, dif_neg h5]
    iintro ⟨A, B, C, D⟩ Hk
    iapply (runs_ret c)
    iapply Hk
    isplitl [A]; · iexact A
    isplitl [B]; · iexact B
    isplitl [C]; · iapply hs; iexact C
    iexact D

/-- The first point of a block of columns. -/
theorem stage_run (t : Fin 64) (h2 : k0_cond2 (at_ t) = 1#1) :
    iprop(records m K ∗ stagePre m c (nOf t) ∗ Owes c 0)
      ⊢ iprop((stagePost m c (nOf t) ∗ Owes c 0 -∗ Q ⟨⟩) -∗ runs c (stage (at_ t) h2) Q) := by
  unfold stage stagePre
  have fin : iprop(stageMid m c (nOf t) ∗ Owes c 0) ⊢ iprop((stagePost m c (nOf t) ∗ Owes c 0 -∗ Q ⟨⟩)
        -∗ runs c (if h5 : k0_cond5 (at_ t) = 1#1 then nextBlock (at_ t) h2 h5 else pure ⟨⟩) Q) := by
    iintro ⟨H, HO⟩ Hk
    iapply (nextPart_run m c Q t h2) $$ [H]
    · iexact H
    iintro H
    iapply Hk
    isplitl [H]; · iexact H
    iexact HO
  by_cases h0 : t.val / 8 = 0
  · have h3 : cond3 (at_ t) = 1#1 := (cond3_iff t).mpr h0
    have h4 : ¬ k0_cond4 (at_ t) = 1#1 := fun e => (cond4_iff t).mp e h0
    have hn : nOf t = 0 := Fin.ext h0
    unfold arriving
    rw [dif_pos h3, dif_neg h4, if_pos (show (nOf t).val = 0 from h0)]
    unfold firstBlock
    iintro ⟨#HR, ⟨⟨A, B, C⟩, D, E, G⟩, HO⟩ Hk
    rw [runs_seq, runs_seq]
    iapply (bCopy_run m c _ (n := nOf t) cc0_scratch4.sem (by rw [hn]; rfl) (by rw [hn]; rfl)) $$ [A B G]
    · isplitl [A]; · iexact A
      isplitl [B]; · iexact B
      iexact G
    iintro HF
    iapply (bCopied_run m K c _ (n := nOf t) cc0_scratch4.sem (by decide) (by rw [hn]; rfl) (by rw [hn]; rfl)) $$ [HF HO]
    · isplitr; · iexact HR
      isplitl [HF]; · iexact HF
      iexact HO
    iintro ⟨S, G, HO⟩
    rw [runs_seq]
    iapply (runs_ret c)
    iapply fin $$ [S G C D E HO]
    · unfold stageMid
      isplitr [HO]
      · isplitl [S]; · iexact S
        isplitl [C D]
        · isplitl [D]; · iexact D
          iexact C
        isplitl [E]; · iexact E
        iexact G
      iexact HO
    iexact Hk
  · have h3 : ¬ cond3 (at_ t) = 1#1 := fun e => h0 ((cond3_iff t).mp e)
    have h4 : k0_cond4 (at_ t) = 1#1 := (cond4_iff t).mpr h0
    unfold arriving
    rw [dif_neg h3, dif_pos h4, if_neg (show ¬ (nOf t).val = 0 from h0)]
    unfold thisBlock
    iintro ⟨#HR, ⟨HF, D, E, G⟩, HO⟩ Hk
    rw [runs_seq]
    iapply (runs_ret c)
    rw [runs_seq]
    iapply (bCopied_run m K c _ (n := nOf t) cc0_scratch5.sem (by decide) (off8_eq t) (off7_eq t)) $$ [HF HO]
    · isplitr; · iexact HR
      isplitl [HF]; · iexact HF
      iexact HO
    iintro ⟨S, C, HO⟩
    iapply fin $$ [S G C D E HO]
    · unfold stageMid
      isplitr [HO]
      · isplitl [S]; · iexact S
        isplitl [C D]
        · isplitl [D]; · iexact D
          iexact C
        isplitl [E]; · iexact E
        iexact G
      iexact HO
    iexact Hk

end Cert.KernelIdeal.Ag

end
-- ==== Proof.Point.lean ====
/-
  One point of the grid on one device: what holds between points, what a point reads and writes, and its run.
-/
module

public import proofs.«01_k».proof.Proof.Stage

@[expose] public section

noncomputable section

namespace Cert.KernelIdeal.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.ValueIdx (ix1 ix2)

variable {F : FTy → Type} [FloatOps F]

local notation "𝕄" => MT nD τ sig Unit (Elt F) ℕ UU ℕ

variable (m : (ℓ : Loc nD τ sig) → Buf (Elt F) ℓ) (K : Dev nD × Key → ℕ) (c : Dev nD)

/-! ## What a point reads -/

/-- Rows `512 r …` of the gathered activation. -/
def xRows (r : Fin 8) : Vec F S512x4096 .fp8e4m3 := fun y =>
  xAll m (ix2 (n0 := 4096) (n1 := 4096) ⟨512 * r.val + (y 0).val, by
    have h : (y 0).val < 512 := (y 0).isLt
    have := r.isLt
    omega⟩ (y 1))

/-- Columns `1024 n …` of the gathered weight. -/
def wCols (n : Fin 8) : Vec F S1x4096x1024 .fp8e4m3 := fun y =>
  wAll m (ix2 (n0 := 4096) (n1 := 8192) (y 1) ⟨1024 * n.val + (y 2).val, by
    have h : (y 2).val < 1024 := (y 2).isLt
    have := n.isLt
    omega⟩)

omit [FloatOps F] in
theorem read_rows {r : Fin 8} {o : Fin 2 → ℕ} (ho : o = ![512 * r.val, 0]) (hi : ∀ a, o a + S512x4096.size a ≤ S4096x4096.size a) :
    (Memref.whole cc0_scratch0).view.readAt (Elt F) (Rect.unit (s := S4096x4096) o S512x4096.size hi).toLoadRect (xAll m) = xRows m r := by
  subst ho
  funext y
  show xAll m _ = xAll m _
  refine congrArg (xAll m) (funext fun a => ?_)
  match a with
  | ⟨0, _⟩ => exact Fin.ext (by show 512 * r.val + 1 * (y 0).val = 512 * r.val + (y 0).val; omega)
  | ⟨1, _⟩ => exact Fin.ext (by show 0 + 1 * (y 1).val = (y 1).val; omega)

omit [FloatOps F] in
theorem read_cols {n : Fin 8} {o : Fin 3 → ℕ} (ho : o = sOff n.val) (hi : ∀ a, o a + S1x4096x1024.size a ≤ S2x4096x1024.size a) :
    (Memref.whole cc0_scratch1).view.readAt (Elt F) (Rect.unit (s := S2x4096x1024) o S1x4096x1024.size hi).toLoadRect (stAll m n) = wCols m n := by
  subst ho
  funext y
  show stAll m n _ = _
  unfold stAll wCols
  refine congrArg (wAll m) (funext fun a => ?_)
  match a with
  | ⟨0, _⟩ => exact Fin.ext (by show 0 + 1 * (y 1).val = (y 1).val; omega)
  | ⟨1, _⟩ => exact Fin.ext (by show 1024 * n.val + (0 + 1 * (y 2).val) = 1024 * n.val + (y 2).val; omega)

theorem cols_within {n : ℕ} {o : Fin 3 → ℕ} (ho : o = sOff n) (hi : ∀ a, o a + S1x4096x1024.size a ≤ S2x4096x1024.size a) :
    (Memref.whole cc0_scratch1).view.setOn (Rect.unit (s := S2x4096x1024) o S1x4096x1024.size hi).toLoadRect.set ⊆ sSet n := by
  subst ho
  rw [sSet_eq]
  intro i hi
  obtain ⟨y, hy, rfl⟩ := Finset.mem_map.mp hi
  show y ∈ _
  exact hy

/-- What is written at row block `r`, column block `n`, with the two scales. -/
def tile (r n : Fin 8) (sx sw : S1.Idx → Elt F .f32) : Vec F S512x1024 .f32 :=
  k0_pay1 (k0_pay2 (xRows m r) (wCols m n) (sx (ix1 0)) (sw (ix1 0))) (k0_pay3 (xRows m r) (wCols m n) (sx (ix1 0)) (sw (ix1 0)))

section Operands

variable {arg4 arg5 : Memref sig .tc .smem S1 .f32} {arg6 : Memref sig .tc .vmem S512x1024 .f32}

theorem one_index (y y' : S1.Idx) : y = y' := by
  funext a
  match a with
  | ⟨0, _⟩ =>
    have h : (y 0).val < 1 := (y 0).isLt
    have h' : (y' 0).val < 1 := (y' 0).isLt
    exact Fin.ext (by show (y 0).val = (y' 0).val; omega)

/-- A scale is loaded from its staged word. -/
theorem scale_run {Q : Elt F .f32 → sProp 𝕄} {f : Buf (Elt F) (arg4.view.loc (c : Thread nD τ))} {X : S1.Idx → Elt F .f32}
    (e : arg4.view.read (Elt F) f = X) {h1 : (Rect.unit (s := S1) ![0] S1.size inb_S1_S1_0).shape.numel = 1} {hp : (EltTy.f32).packing = 1} :
    (arg4.view.loc (c : Thread nD τ) ↦[arg4.view.set]{fullShare} f : sProp 𝕄)
      ⊢ iprop(((arg4.view.loc (c : Thread nD τ) ↦[arg4.view.set]{fullShare} f) -∗ Q (X (ix1 0)))
        -∗ runs c (smemLoad arg4 (Rect.unit (s := S1) ![0] S1.size inb_S1_S1_0) h1 hp) Q) := by
  unfold smemLoad
  iintro H Hk
  have h : (arg4.view.loc (c : Thread nD τ) ↦[arg4.view.set]{fullShare} f : sProp 𝕄)
      ⊢ ((arg4.access (Rect.unit (s := S1) ![0] S1.size inb_S1_S1_0)).loc (c : Thread nD τ) ↦[arg4.view.set]{fullShare} f) := BI.Entails.refl _
  ihave H := h $$ H
  iapply (wp_smemLoadElt 𝒱₀ (c : Thread nD τ) none Set.univ (View.set_slice_subset _ _)) $$ H
  iintro H
  iapply (runs_ret c)
  have e' : ∀ x, (arg4.access (Rect.unit (s := S1) ![0] S1.size inb_S1_S1_0)).read (Elt F) f x = X (ix1 0) := fun x => by
    rw [← e]
    show arg4.view.read (Elt F) f _ = _
    exact congrArg _ (one_index _ _)
  rw [e']
  iapply Hk
  iexact H

/-- What the block product reads, read. -/
theorem operands_run (t : Fin 64) {Q : (Σ' (_ : FVec F S512x1024 .f32), FVec F S512x1024 .f32) → sProp 𝕄}
    {f4 : Buf (Elt F) (arg4.view.loc (c : Thread nD τ))} {f5 : Buf (Elt F) (arg5.view.loc (c : Thread nD τ))} {sx sw : S1.Idx → Elt F .f32}
    (e4 : arg4.view.read (Elt F) f4 = sx) (e5 : arg5.view.read (Elt F) f5 = sw) :
    iprop((xLoc c ↦{fullShare} xAll m) ∗ slot m c (nOf t) ∗ (arg4.view.loc (c : Thread nD τ) ↦[arg4.view.set]{fullShare} f4)
        ∗ (arg5.view.loc (c : Thread nD τ) ↦[arg5.view.set]{fullShare} f5))
      ⊢ iprop(((xLoc c ↦{fullShare} xAll m) ∗ slot m c (nOf t) ∗ (arg4.view.loc (c : Thread nD τ) ↦[arg4.view.set]{fullShare} f4)
        ∗ (arg5.view.loc (c : Thread nD τ) ↦[arg5.view.set]{fullShare} f5)
          -∗ Q ⟨k0_pay2 (xRows m (mOf t)) (wCols m (nOf t)) (sx (ix1 0)) (sw (ix1 0)), k0_pay3 (xRows m (mOf t)) (wCols m (nOf t)) (sx (ix1 0)) (sw (ix1 0))⟩)
        -∗ runs c (operands (at_ t) arg4 arg5) Q) := by
  unfold operands slot
  iintro ⟨Hx, Hs, H4, H5⟩ Hk
  rw [runs_seq]
  iapply (wp_load 𝒱₀ (c : Thread nD τ) none Set.univ (m := Memref.whole cc0_scratch0) (Finset.subset_univ _)) $$ Hx
  iintro Hx
  iapply (runs_ret c)
  rw [read_rows m (off11_eq t), runs_seq]
  iapply (wp_load 𝒱₀ (c : Thread nD τ) none Set.univ (m := Memref.whole cc0_scratch1) (cols_within (off12_eq t) _)) $$ Hs
  iintro Hs
  iapply (runs_ret c)
  rw [read_cols m (off12_eq t), runs_seq]
  iapply (scale_run c e4) $$ H4
  iintro H4
  rw [runs_seq]
  iapply (scale_run c e5) $$ H5
  iintro H5
  iapply (runs_ret c)
  iapply Hk
  isplitl [Hx]; · iexact Hx
  isplitl [Hs]; · iexact Hs
  isplitl [H4]; · iexact H4
  iexact H5

/-- Written whole, a staging buffer reads as what was written. -/
theorem read_written (f : Buf (Elt F) (arg6.view.loc (c : Thread nD τ))) (v : S512x1024.Idx → Elt F .f32) :
    arg6.view.read (Elt F) ((arg6.access (Rect.unit (s := S512x1024) ![0, 0] S512x1024.size inb_S512x1024_S512x1024_0_0)).write (Elt F) f v Finset.univ) = v := by
  funext y
  have hy : (Rect.unit (s := S512x1024) ![0, 0] S512x1024.size inb_S512x1024_S512x1024_0_0).emb y = y := by
    funext a
    match a with
    | ⟨0, _⟩ => exact Fin.ext (by show 0 + 1 * (y 0).val = (y 0).val; omega)
    | ⟨1, _⟩ => exact Fin.ext (by show 0 + 1 * (y 1).val = (y 1).val; omega)
  have h := View.read_slice_write_emb (v := arg6.view) (Rect.unit (s := S512x1024) ![0, 0] S512x1024.size inb_S512x1024_S512x1024_0_0) f v
    (M := Finset.univ) (x := y) (Finset.mem_univ _)
  rw [hy] at h
  exact h

/-- The tile written. -/
theorem result_run {Q : PUnit.{1} → sProp 𝕄} (p : Σ' (_ : FVec F S512x1024 .f32), FVec F S512x1024 .f32) :
    anyAt (arg6.view.loc (c : Thread nD τ)) arg6.view.set
      ⊢ iprop((owns (c : Thread nD τ) arg6 fullShare (k0_pay1 p.1 p.2) -∗ Q ⟨⟩) -∗ runs c (result arg6 p) Q) := by
  unfold anyAt result owns
  iintro ⟨%f, H⟩ Hk
  rw [runs_seq]
  iapply (wp_load 𝒱₀ (c : Thread nD τ) none Set.univ (m := arg6) (View.setOn_subset_set _ _)) $$ H
  iintro H
  iapply (runs_ret c)
  have h : (arg6.view.loc (c : Thread nD τ) ↦[arg6.view.set]{fullShare} f : sProp 𝕄)
      ⊢ ((arg6.access (Rect.unit (s := S512x1024) ![0, 0] S512x1024.size inb_S512x1024_S512x1024_0_0)).loc (c : Thread nD τ) ↦[arg6.view.set]{fullShare} f) :=
    BI.Entails.refl _
  ihave H := h $$ H
  iapply (wp_store 𝒱₀ (c : Thread nD τ) none Set.univ (m := arg6) (Mk := Finset.univ) (View.set_slice_subset _ _)) $$ H
  iintro H
  iapply (runs_ret c)
  iapply Hk
  iexists _
  isplitr; · ipureintro; exact read_written c f _
  iexact H

end Operands

/-! ## What holds between points -/

/-- Before the first point, what the device owes apart: what the exchange starts from, and the staging unused. -/
def entry : sProp 𝕄 :=
  iprop((((dutyTok ER (cell (rot c 15) none) 0 true ∗ dutyTok ER (cell (rot c 1) none) 0 false)
      ∗ (bigSep Finset.univ fun f : Fl => room f.2 c (got c f.1)) ∗ atPos ER (cell c none) 0 ∅ 0 ∗ cred (tallyAt (cell c none) () 2))
      ∗ (room false c c ∗ room true c c) ∗ ownSems c ∗ (bigSep Finset.univ fun f : Fl => toks c f) ∗ bigSep Finset.univ fun f : Fl => toWait c f)
    ∗ slotAny c 0 ∗ slotAny c 1 ∗ semVal ((c : Thread nD τ), .dma cc0_scratch4.sem) 0 ∗ semVal ((c : Thread nD τ), .dma cc0_scratch5.sem) 0)

/-- Once the exchange is done: its semaphores at zero, the gathered activation, -/
def gathered : sProp 𝕄 :=
  iprop((semVal (cell c none) 0 ∗ ownSems c ∗ bigSep Finset.univ fun k : Hop => zeros c k) ∗ (xLoc c ↦{fullShare} xAll m))

/-- and column block `n` staged. -/
def settled (n : Fin 8) : sProp 𝕄 := iprop(gathered m c ∗ stagePost m c n)

/-- What holds before point `t`. -/
def stateAt (t : Fin 65) : sProp 𝕄 :=
  iprop(∃ K, records m K ∗ if t.val = 0 then entry c else settled m c ⟨(t.val - 1) / 8, by have := t.isLt; omega⟩)

/-- What is owed before point `t`. -/
def owedAt (t : Fin 65) : CellTallies nD τ sig Unit := if t.val = 0 then owed₀ c else 0

section Point

variable {arg2 : Memref sig .tc .vmem S4096x256 .fp8e4m3} {arg3 : Memref sig .tc .vmem S256x8192 .fp8e4m3}
  {arg4 arg5 : Memref sig .tc .smem S1 .f32} {arg6 : Memref sig .tc .vmem S512x1024 .f32} (Q : PUnit.{1} → sProp (MT nD τ sig Unit (Elt F) ℕ UU ℕ))

/-- The weight's column blocks, the first taken out. -/
theorem first_col : (wLoc c ↦{fullShare} wAll m : sProp 𝕄) ⊢ iprop(col m c 0 ∗ bigSep (finFrom 8 1) fun j => col m c j) := by
  rw [cols_eq]
  refine Entails.of_eq ?_
  rw [← bigSep_finFrom_zero (fun j : Fin 8 => col m c j)]
  exact bigSep_finFrom_succ (n := 8) (k := 0) (by decide) _

theorem entry_give : iprop(entry c ∗ Owes c (owed₀ c)) ⊢ iprop(gatherPre c ∗ slotAny c 0 ∗ slotAny c 1
    ∗ semVal ((c : Thread nD τ), .dma cc0_scratch4.sem) 0 ∗ semVal ((c : Thread nD τ), .dma cc0_scratch5.sem) 0 : sProp 𝕄) := by
  unfold entry gatherPre meetPre
  iintro ⟨⟨⟨⟨A, B, C, D⟩, E⟩, G⟩, HO⟩
  isplitr [G]
  · isplitl [A B C D HO]
    · isplitl [A]; · iexact A
      isplitl [B]; · iexact B
      isplitl [C]; · iexact C
      isplitl [D]; · iexact D
      iexact HO
    iexact E
  iexact G

/-- The exchange done and the first block staged: the first point up to its product. -/
theorem first_run (t : Fin 64) (h0 : t.val = 0) (hc : k0_cond1 (at_ t) = 1#1) (h2 : k0_cond2 (at_ t) = 1#1) (w₂ : arg2.IsWhole) (w₃ : arg3.IsWhole)
    {f₂ : Buf (Elt F) (arg2.view.loc (c : Thread nD τ))} {f₃ : Buf (Elt F) (arg3.view.loc (c : Thread nD τ))}
    (e₂ : arg2.view.read (Elt F) f₂ = m ((c : Thread nD τ).loc main_arg0)) (e₃ : arg3.view.read (Elt F) f₃ = m ((c : Thread nD τ).loc main_arg1)) :
    iprop(records m K ∗ entry c ∗ Owes c (owed₀ c) ∗ blocksIn c arg2 arg3 f₂ f₃)
      ⊢ iprop((settled m c (nOf t) ∗ Owes c 0 ∗ blocksIn c arg2 arg3 f₂ f₃ -∗ Q ⟨⟩)
        -∗ runs c (gather (at_ t) hc c arg2 w₂ arg3 w₃) fun _ => runs c (stage (at_ t) h2) Q) := by
  have hn : nOf t = 0 := Fin.ext (by show t.val / 8 = 0; omega)
  iintro ⟨#HR, HE, HO, Hb⟩ Hk
  ihave H := (entry_give c) $$ [HE HO]
  · isplitl [HE]; · iexact HE
    iexact HO
  icases H with ⟨Hg, S0, S1, L, P⟩
  iapply (gather_run m K c _ (at_ t) hc w₂ w₃ e₂ e₃) $$ [Hb Hg]
  · isplitr; · iexact HR
    isplitl [Hb]; · iexact Hb
    iexact Hg
  unfold gatherPost
  iintro ⟨Hb, Hz, Hx, Hw, HO⟩
  ihave Hw := (first_col m c) $$ Hw
  icases Hw with ⟨W0, W1⟩
  iapply (stage_run m K c Q t h2) $$ [S0 S1 L P W0 W1 HO]
  · isplitr; · iexact HR
    isplitr [HO]
    · rw [hn]
      unfold stagePre arriving
      rw [if_pos (show (0 : Fin 8).val = 0 from rfl)]
      isplitl [S0 W0 P]
      · isplitl [W0]; · iexact W0
        isplitl [S0]; · iexact S0
        iexact P
      isplitl [S1]; · iexact S1
      isplitl [W1]; · iexact W1
      iexact L
    iexact HO
  iintro ⟨Hs, HO⟩
  iapply Hk
  unfold settled gathered
  isplitr [HO Hb]
  · isplitl [Hz Hx]
    · isplitl [Hz]; · iexact Hz
      iexact Hx
    iexact Hs
  isplitl [HO]; · iexact HO
  iexact Hb

/-- A later point up to its product: at the first row block the next column block is taken up. -/
theorem later_run (t : Fin 64) (h0 : t.val ≠ 0) :
    iprop(records m K ∗ settled m c ⟨(t.val - 1) / 8, by have := t.isLt; omega⟩ ∗ Owes c 0)
      ⊢ iprop((settled m c (nOf t) ∗ Owes c 0 -∗ Q ⟨⟩)
        -∗ runs c (if h2 : k0_cond2 (at_ t) = 1#1 then stage (at_ t) h2 else pure ⟨⟩) Q) := by
  have ht := t.isLt
  by_cases hm : t.val % 8 = 0
  · have h2 : k0_cond2 (at_ t) = 1#1 := (cond2_iff t).mpr hm
    have hlt : (⟨(t.val - 1) / 8, by omega⟩ : Fin 8).val + 1 < 8 := by show (t.val - 1) / 8 + 1 < 8; omega
    have hn : (⟨(⟨(t.val - 1) / 8, by omega⟩ : Fin 8).val + 1, hlt⟩ : Fin 8) = nOf t := Fin.ext (by show (t.val - 1) / 8 + 1 = t.val / 8; omega)
    have hs := stage_next m c ⟨(t.val - 1) / 8, by omega⟩ hlt
    rw [hn] at hs
    rw [dif_pos h2]
    unfold settled
    iintro ⟨#HR, ⟨Hg, Hs⟩, HO⟩ Hk
    ihave Hs := hs $$ Hs
    iapply (stage_run m K c Q t h2) $$ [Hs HO]
    · isplitr; · iexact HR
      isplitl [Hs]; · iexact Hs
      iexact HO
    iintro ⟨Hs, HO⟩
    iapply Hk
    isplitr [HO]
    · isplitl [Hg]; · iexact Hg
      iexact Hs
    iexact HO
  · have h2 : ¬ k0_cond2 (at_ t) = 1#1 := fun e => hm ((cond2_iff t).mp e)
    have hn : (⟨(t.val - 1) / 8, by omega⟩ : Fin 8) = nOf t := Fin.ext (by show (t.val - 1) / 8 = t.val / 8; omega)
    rw [dif_neg h2, hn]
    iintro ⟨-, Hs, HO⟩ Hk
    iapply (runs_ret c)
    iapply Hk
    isplitl [Hs]; · iexact Hs
    iexact HO

theorem device_run {β : Type} (k : Dev nD → Pg F β) (Q : β → sProp 𝕄) : runs c (k c) Q ⊢ runs c ((Prog.lift .deviceId : Pg F (Dev nD)) >>= k) Q := by
  rw [runs_seq]
  unfold runs
  unfold Prog.lift
  rw [wp_deviceId]
  exact runs_ret c c fun a => runs c (k a) Q

/-- One point. -/
theorem point_run (t : Fin 64) (w₂ : arg2.IsWhole) (w₃ : arg3.IsWhole)
    {f₂ : Buf (Elt F) (arg2.view.loc (c : Thread nD τ))} {f₃ : Buf (Elt F) (arg3.view.loc (c : Thread nD τ))}
    {f4 : Buf (Elt F) (arg4.view.loc (c : Thread nD τ))} {f5 : Buf (Elt F) (arg5.view.loc (c : Thread nD τ))} {sx sw : S1.Idx → Elt F .f32}
    (e₂ : arg2.view.read (Elt F) f₂ = m ((c : Thread nD τ).loc main_arg0)) (e₃ : arg3.view.read (Elt F) f₃ = m ((c : Thread nD τ).loc main_arg1))
    (e4 : arg4.view.read (Elt F) f4 = sx) (e5 : arg5.view.read (Elt F) f5 = sw) :
    iprop(stateAt m c t.castSucc ∗ Owes c (owedAt c t.castSucc) ∗ blocksIn c arg2 arg3 f₂ f₃ ∗ (arg4.view.loc (c : Thread nD τ) ↦[arg4.view.set]{fullShare} f4)
        ∗ (arg5.view.loc (c : Thread nD τ) ↦[arg5.view.set]{fullShare} f5) ∗ anyAt (arg6.view.loc (c : Thread nD τ)) arg6.view.set)
      ⊢ iprop((stateAt m c t.succ ∗ Owes c (owedAt c t.succ) ∗ blocksIn c arg2 arg3 f₂ f₃ ∗ (arg4.view.loc (c : Thread nD τ) ↦[arg4.view.set]{fullShare} f4)
        ∗ (arg5.view.loc (c : Thread nD τ) ↦[arg5.view.set]{fullShare} f5) ∗ owns (c : Thread nD τ) arg6 fullShare (tile m (mOf t) (nOf t) sx sw) -∗ Q ⟨⟩)
        -∗ runs c (body (at_ t) arg2 w₂ arg3 w₃ arg4 arg5 arg6) Q) := by
  have hsucc : (⟨(t.succ.val - 1) / 8, by have := t.succ.isLt; omega⟩ : Fin 8) = nOf t := Fin.ext (by show (t.val + 1 - 1) / 8 = t.val / 8; omega)
  -- from the staged block to the end
  have rest (K : Dev nD × Key → ℕ) : iprop(records m K ∗ settled m c (nOf t) ∗ Owes c 0 ∗ blocksIn c arg2 arg3 f₂ f₃ ∗ (arg4.view.loc (c : Thread nD τ) ↦[arg4.view.set]{fullShare} f4)
        ∗ (arg5.view.loc (c : Thread nD τ) ↦[arg5.view.set]{fullShare} f5) ∗ anyAt (arg6.view.loc (c : Thread nD τ)) arg6.view.set)
      ⊢ iprop((stateAt m c t.succ ∗ Owes c (owedAt c t.succ) ∗ blocksIn c arg2 arg3 f₂ f₃ ∗ (arg4.view.loc (c : Thread nD τ) ↦[arg4.view.set]{fullShare} f4)
        ∗ (arg5.view.loc (c : Thread nD τ) ↦[arg5.view.set]{fullShare} f5) ∗ owns (c : Thread nD τ) arg6 fullShare (tile m (mOf t) (nOf t) sx sw) -∗ Q ⟨⟩)
        -∗ runs c (operands (at_ t) arg4 arg5 >>= result arg6) Q) := by
    have ho : owedAt c t.succ = 0 := if_neg (Nat.succ_ne_zero _)
    rw [ho]
    unfold stateAt
    rw [if_neg (show ¬ t.succ.val = 0 from Nat.succ_ne_zero _), hsucc]
    unfold settled gathered stagePost
    iintro ⟨#HR, ⟨⟨Hz, Hx⟩, Hs, Hs'⟩, HO, Hb, H4, H5, H6⟩ Hk
    rw [runs_seq]
    iapply (operands_run m c t e4 e5) $$ [Hx Hs H4 H5]
    · isplitl [Hx]; · iexact Hx
      isplitl [Hs]; · iexact Hs
      isplitl [H4]; · iexact H4
      iexact H5
    iintro ⟨Hx, Hs, H4, H5⟩
    iapply (result_run c _) $$ H6
    iintro H6
    iapply Hk
    isplitr [HO Hb H4 H5 H6]
    · iexists K
      isplitr; · iexact HR
      isplitr [Hs Hs']
      · isplitl [Hz]; · iexact Hz
        iexact Hx
      isplitl [Hs]; · iexact Hs
      iexact Hs'
    isplitl [HO]; · iexact HO
    isplitl [Hb]; · iexact Hb
    isplitl [H4]; · iexact H4
    isplitl [H5]; · iexact H5
    unfold tile
    iexact H6
  unfold body
  rw [show stateAt m c t.castSucc = iprop(∃ K, records m K ∗ if t.castSucc.val = 0 then entry c
    else settled m c ⟨(t.castSucc.val - 1) / 8, by have := t.castSucc.isLt; omega⟩) from rfl]
  by_cases h0 : t.val = 0
  · have hc : k0_cond1 (at_ t) = 1#1 := (cond1_iff t).mpr h0
    have h2 : k0_cond2 (at_ t) = 1#1 := (cond2_iff t).mpr (by omega)
    have ho : owedAt c t.castSucc = owed₀ c := if_pos h0
    simp only [ho, if_pos (show t.castSucc.val = 0 from h0), dif_pos hc, dif_pos h2]
    iintro ⟨⟨%K, #HR, HS⟩, HO, Hb, H4, H5, H6⟩ Hk
    iapply (device_run c)
    rw [runs_seq]
    simp only [runs_seq c (stage (at_ t) h2)]
    iapply (first_run m K c _ t h0 hc h2 w₂ w₃ e₂ e₃) $$ [HS HO Hb]
    · isplitr; · iexact HR
      isplitl [HS]; · iexact HS
      isplitl [HO]; · iexact HO
      iexact Hb
    iintro ⟨HS, HO, Hb⟩
    iapply (rest K) $$ [HS HO Hb H4 H5 H6]
    · isplitr; · iexact HR
      isplitl [HS]; · iexact HS
      isplitl [HO]; · iexact HO
      isplitl [Hb]; · iexact Hb
      isplitl [H4]; · iexact H4
      isplitl [H5]; · iexact H5
      iexact H6
    iexact Hk
  · have hc : ¬ k0_cond1 (at_ t) = 1#1 := fun e => h0 ((cond1_iff t).mp e)
    have ho : owedAt c t.castSucc = 0 := if_neg h0
    simp only [ho, if_neg (show ¬ t.castSucc.val = 0 from h0), dif_neg hc]
    iintro ⟨⟨%K, #HR, HS⟩, HO, Hb, H4, H5, H6⟩ Hk
    iapply (device_run c)
    rw [runs_seq]
    iapply (runs_ret c)
    rw [runs_seq]
    iapply (later_run m K c _ t h0) $$ [HS HO]
    · isplitr; · iexact HR
      isplitl [HS]; · iexact HS
      iexact HO
    iintro ⟨HS, HO⟩
    iapply (rest K) $$ [HS HO Hb H4 H5 H6]
    · isplitr; · iexact HR
      isplitl [HS]; · iexact HS
      isplitl [HO]; · iexact HO
      isplitl [Hb]; · iexact Hb
      isplitl [H4]; · iexact H4
      isplitl [H5]; · iexact H5
      iexact H6
    iexact Hk

end Point

end Cert.KernelIdeal.Ag

end
-- ==== Proof.Credit.lean ====
/-
  What the devices owe one another at launch, added up at each semaphore: two counts at every barrier, one copy's
  credit at every semaphore a copy lands on. That is the credit each device starts with.
-/
module

public import proofs.«01_k».proof.Proof.Point

@[expose] public section

noncomputable section

namespace Cert.KernelIdeal.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The debts as one sum -/

theorem owedFrom_sum (d : Dev nD) : owedFrom d 0 = ∑ f : Fl, flOwed d f := by
  have hop (h : Fin 7) (O : CellTallies nD τ sig Unit) :
      hopOwed d h O = ((∑ b : Bool, flOwed d (.inl h.castSucc, b)) + ∑ b : Bool, flOwed d (.inr h, b)) + O := by
    unfold hopOwed
    rw [Fintype.sum_bool, Fintype.sum_bool]
    simp only [add_assoc, add_comm, add_left_comm]
  have last : lastOwed d = ∑ b : Bool, flOwed d (.inl 7, b) := by
    unfold lastOwed
    rw [Fintype.sum_bool, zero_add]
  rw [Fintype.sum_prod_type, Fintype.sum_sum_type, Fin.sum_univ_castSucc (n := 7), show (Fin.last 7 : Fin 8) = 7 from rfl, ← last, add_right_comm,
    ← Finset.sum_add_distrib, Fin.sum_univ_seven]
  unfold owedFrom hops
  simp only [List.drop_zero, List.foldr_cons, List.foldr_nil, hop, add_zero, add_assoc]

theorem cell_inj {c d : Dev nD} {k l : Key} (h : cell c k = cell d l) : c = d ∧ k = l :=
  ⟨congrArg (fun g : GSem nD τ sig => g.1.1) h, keySem_injective (congrArg Prod.snd h)⟩

/-- One debt, read at a semaphore of the exchange. -/
theorem debt_at (d c : Dev nD) (l k : Key) (a : ℕ) :
    (tallyAt (cell d l) () a : CellTallies nD τ sig Unit) (cell c k) () = if d = c ∧ l = k then a else 0 := by
  rw [tallyAt_apply]
  refine if_congr ⟨fun h => ⟨(cell_inj h.1).1.symm, (cell_inj h.1).2.symm⟩, fun h => ⟨by rw [h.1, h.2], rfl⟩⟩ rfl rfl

/-- The debts to a semaphore a copy lands on come from one device only. -/
theorem due_landing (c : Dev nD) (f : Fl) : ∑ d : Dev nD, owed₀ d (cell c (some (f, true))) () = amt f.2 := by
  have h (d : Dev nD) : owed₀ d (cell c (some (f, true))) () = if d = frm c f.1 then amt f.2 else 0 := by
    unfold owed₀
    rw [owedFrom_sum]
    simp only [Pi.add_apply, Finsupp.add_apply, Finset.sum_apply, Finsupp.finsetSum_apply, flOwed, debt_at, reduceCtorEq, and_false, if_false, Nat.add_zero]
    rw [Finset.sum_eq_single f (fun g _ hg => if_neg fun e => hg (Prod.mk.inj (Option.some.inj e.2)).1) (fun hf => absurd (Finset.mem_univ f) hf)]
    refine if_congr ⟨fun e => ?_, fun e => ⟨?_, rfl⟩⟩ rfl rfl
    · rw [← e.1, frm_dst]
    · rw [e, dst_frm]
  rw [Finset.sum_congr rfl fun d _ => h d, Finset.sum_ite_eq' Finset.univ (frm c f.1) fun _ => amt f.2, if_pos (Finset.mem_univ _)]

/-- The debts to a barrier come from the two neighbours. -/
theorem due_barrier (c : Dev nD) : ∑ d : Dev nD, owed₀ d (cell c none) () = 2 := by
  have h (d : Dev nD) : owed₀ d (cell c none) () = (if d = rot c 15 then 1 else 0) + if d = rot c 1 then 1 else 0 := by
    unfold owed₀
    rw [owedFrom_sum]
    simp only [Pi.add_apply, Finsupp.add_apply, Finset.sum_apply, Finsupp.finsetSum_apply, flOwed, debt_at, reduceCtorEq, and_false, and_true, if_false,
      Finset.sum_const_zero, Nat.zero_add]
    refine congrArg₂ _ (if_congr ?_ rfl rfl) (if_congr ?_ rfl rfl)
    · exact ⟨fun e => by rw [← e]; exact (frm_dst d (.inl 0)).symm, fun e => by rw [e]; exact dst_frm c (.inl 0)⟩
    · exact ⟨fun e => by rw [← e]; exact (frm_dst d (.inr 0)).symm, fun e => by rw [e]; exact dst_frm c (.inr 0)⟩
  rw [Finset.sum_congr rfl fun d _ => h d, Finset.sum_add_distrib, Finset.sum_ite_eq' Finset.univ (rot c 15) fun _ => 1,
    Finset.sum_ite_eq' Finset.univ (rot c 1) fun _ => 1, if_pos (Finset.mem_univ _), if_pos (Finset.mem_univ _)]

theorem credit_at (c : Dev nD) (k : Key) (n : ℕ) (h : ∑ d : Dev nD, owed₀ d (cell c k) () = n) :
    tallyOn (cell c k) (launchCredit (Pipeline.owing owed₀) 0 (cell c k)) = (tallyAt (cell c k) () n : CellTallies nD τ sig Unit) := by
  unfold tallyAt
  refine congrArg _ (Finsupp.ext fun u => ?_)
  cases u
  rw [Pipeline.launchCredit_owing, h, Finsupp.single_eq_same]

/-! ## The credit a device starts with -/

variable (c : Dev nD)

omit [FloatOps F] in
/-- A family over the semaphores of the exchange: the barrier's, and two for every flight. -/
theorem family_keys (Φ : Key → sProp 𝕄) :
    bigSep Finset.univ Φ = iprop(Φ none ∗ (bigSep Finset.univ fun f : Fl => Φ (some (f, false))) ∗ bigSep Finset.univ fun f : Fl => Φ (some (f, true))) := by
  have e : (bigSep Finset.univ fun fr : Fl × Bool => Φ (some fr)) = iprop((bigSep Finset.univ fun f : Fl => Φ (some (f, false))) ∗ bigSep Finset.univ fun f : Fl => Φ (some (f, true))) := by
    rw [bigSep_univ_prod, bigSep_congr (s := Finset.univ) fun (f : Fl) _ => family_bool fun b => Φ (some (f, b)), bigSep_sep']
  rw [← e, bigSep_univ_equiv (Equiv.optionEquivSumPUnit.{0, 0} (Fl × Bool)).symm, family_sum, swap]
  exact congrArg (fun x => iprop(x ∗ bigSep Finset.univ fun fr : Fl × Bool => Φ (some fr))) (bigSep_univ_of_subsingleton PUnit.unit)

omit [FloatOps F] in
/-- The credit dealt at launch holds every credit of the exchange. -/
theorem credits : (Pipeline.launchCred owed₀ c : sProp 𝕄)
    ⊢ iprop(cred (tallyAt (cell c none) () 2) ∗ bigSep Finset.univ fun f : Fl => cred (tallyAt (cell c (some (f, true))) () (amt f.2))) := by
  have hs : (Pipeline.launchCred owed₀ c : sProp 𝕄)
      ⊢ bigSep (Finset.univ.map ⟨keySem, keySem_injective⟩) fun sm : SemLoc sig =>
        cred (tallyOn ((c : Thread nD τ), sm) (launchCredit (Pipeline.owing owed₀) 0 ((c : Thread nD τ), sm))) :=
    BI.bigSep_subset (Finset.subset_univ _)
  refine hs.trans ?_
  rw [bigSep_map, family_keys]
  simp only [Function.Embedding.coeFn_mk]
  rw [credit_at c none 2 (due_barrier c), bigSep_congr (s := Finset.univ) fun (f : Fl) _ =>
    congrArg cred (credit_at c (some (f, true)) (amt f.2) (due_landing c f))]
  iintro ⟨A, -, B⟩
  isplitl [A]; · iexact A
  iexact B

end Cert.KernelIdeal.Ag

end
-- ==== Proof.Obligation.lean ====
/-
  The grid as the pipeline runs it: what each staging buffer holds at a point, and the obligation on the body there.
-/
module

public import proofs.«01_k».proof.Proof.Point
public import proofs.«01_k».proof.Proof.Gen.KernelIdeal.Frame

@[expose] public section

noncomputable section

namespace Cert.KernelIdeal.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The blocks -/

/-- The windows of the arguments stage each argument whole. -/
theorem block_x (c : Dev nD) (t : Fin 64) : iblk m c 0 t = m ((c : Thread nD τ).loc main_arg0) := by
  funext y
  refine congrArg (m ((c : Thread nD τ).loc main_arg0)) (funext fun a => Fin.ext ?_)
  match a with
  | ⟨0, _⟩ => show 0 * 4096 + 1 * (y 0).val = (y 0).val; omega
  | ⟨1, _⟩ => show 0 * 256 + 1 * (y 1).val = (y 1).val; omega
theorem block_w (c : Dev nD) (t : Fin 64) : iblk m c 1 t = m ((c : Thread nD τ).loc main_arg1) := by
  funext y
  refine congrArg (m ((c : Thread nD τ).loc main_arg1)) (funext fun a => Fin.ext ?_)
  match a with
  | ⟨0, _⟩ => show 0 * 256 + 1 * (y 0).val = (y 0).val; omega
  | ⟨1, _⟩ => show 0 * 8192 + 1 * (y 1).val = (y 1).val; omega
theorem block_sx (c : Dev nD) (t : Fin 64) : iblk m c 2 t = m ((c : Thread nD τ).loc main_arg2) := by
  funext y
  refine congrArg (m ((c : Thread nD τ).loc main_arg2)) (funext fun a => Fin.ext ?_)
  match a with
  | ⟨0, _⟩ => show 0 * 1 + 1 * (y 0).val = (y 0).val; omega
theorem block_sw (c : Dev nD) (t : Fin 64) : iblk m c 3 t = m ((c : Thread nD τ).loc main_arg3) := by
  funext y
  refine congrArg (m ((c : Thread nD τ).loc main_arg3)) (funext fun a => Fin.ext ?_)
  match a with
  | ⟨0, _⟩ => show 0 * 1 + 1 * (y 0).val = (y 0).val; omega

/-- What the result's staging buffer holds after point `t`. -/
def tileAt (c : Dev nD) (t : Fin 64) : S512x1024.Idx → Elt F .f32 :=
  tile m (mOf t) (nOf t) (m ((c : Thread nD τ).loc main_arg2)) (m ((c : Thread nD τ).loc main_arg3))

/-! ## The proof data -/

def dats (_ : Fin 1) (c : Dev nD) : Dat τ (Elt F) Unit ℕ UU ℕ cfg0 c where
  A w := m ((cfg0.win w).arr.view.loc (c : Thread nD τ))
  after w t := match w with
    | ⟨0, _⟩ => m ((c : Thread nD τ).loc main_arg0)
    | ⟨1, _⟩ => m ((c : Thread nD τ).loc main_arg1)
    | ⟨2, _⟩ => m ((c : Thread nD τ).loc main_arg2)
    | ⟨3, _⟩ => m ((c : Thread nD τ).loc main_arg3)
    | ⟨4, _⟩ => tileAt m c t
  Φ t := stateAt m c t
  q _ := fullShare
  owed t := owedAt c t

/-- An argument's window holds its block at every point. -/
theorem before_x (c : Dev nD) (t : Fin 64) (d) : (dats m 0 c).before 0 t d = m ((c : Thread nD τ).loc main_arg0) :=
  (((dats m 0 c).before_in_eq_fetched 0 rfl (fun _ => rfl) (fun _ _ _ => rfl) (fun t => (block_x m c t).symm) t d).trans
    (show _ = iblk m c 0 t from rfl)).trans (block_x m c t)
theorem before_w (c : Dev nD) (t : Fin 64) (d) : (dats m 0 c).before 1 t d = m ((c : Thread nD τ).loc main_arg1) :=
  (((dats m 0 c).before_in_eq_fetched 1 rfl (fun _ => rfl) (fun _ _ _ => rfl) (fun t => (block_w m c t).symm) t d).trans
    (show _ = iblk m c 1 t from rfl)).trans (block_w m c t)
theorem before_sx (c : Dev nD) (t : Fin 64) (d) : (dats m 0 c).before 2 t d = m ((c : Thread nD τ).loc main_arg2) :=
  (((dats m 0 c).before_in_eq_fetched 2 rfl (fun _ => rfl) (fun _ _ _ => rfl) (fun t => (block_sx m c t).symm) t d).trans
    (show _ = iblk m c 2 t from rfl)).trans (block_sx m c t)
theorem before_sw (c : Dev nD) (t : Fin 64) (d) : (dats m 0 c).before 3 t d = m ((c : Thread nD τ).loc main_arg3) :=
  (((dats m 0 c).before_in_eq_fetched 3 rfl (fun _ => rfl) (fun _ _ _ => rfl) (fun t => (block_sw m c t).symm) t d).trans
    (show _ = iblk m c 3 t from rfl)).trans (block_sw m c t)

/-- Whatever waits are on record, the pipeline's debt is the body's. -/
theorem owesAt_eq (c : Dev nD) (t : Fin 65) : ((dats m 0 c).owesAt () t : sProp 𝕄) ⊢ Owes c (owedAt c t) := by
  show iprop(∃ W, ⌜_⌝ ∗ owes (c : Thread nD τ) (owedAt c t) W) ⊢ _
  unfold Owes
  iintro ⟨%W, -, H⟩
  iexists W; iexact H
theorem owesAt_of (c : Dev nD) (t : Fin 65) : Owes c (owedAt c t) ⊢ ((dats m 0 c).owesAt () t : sProp 𝕄) := by
  show _ ⊢ iprop(∃ W, ⌜_⌝ ∗ owes (c : Thread nD τ) (owedAt c t) W)
  unfold Owes
  iintro ⟨%W, H⟩
  iexists W
  isplitr
  · ipureintro; exact fun _ _ => Or.inl trivial
  iexact H

/-! ## The body -/

section Body

variable {arg2 : Memref sig .tc .vmem S4096x256 .fp8e4m3} {arg3 : Memref sig .tc .vmem S256x8192 .fp8e4m3}
  {arg4 arg5 : Memref sig .tc .smem S1 .f32} {arg6 : Memref sig .tc .vmem S512x1024 .f32}

/-- A point, from what its staging buffers hold to what they hold after. -/
theorem point_owned (c : Dev nD) (t : Fin 64) (w₂ : arg2.IsWhole) (w₃ : arg3.IsWhole) :
    iprop(stateAt m c t.castSucc ∗ Owes c (owedAt c t.castSucc)
        ∗ owns (c : Thread nD τ) arg2 fullShare (m ((c : Thread nD τ).loc main_arg0)) ∗ owns (c : Thread nD τ) arg3 fullShare (m ((c : Thread nD τ).loc main_arg1))
        ∗ owns (c : Thread nD τ) arg4 fullShare (m ((c : Thread nD τ).loc main_arg2)) ∗ owns (c : Thread nD τ) arg5 fullShare (m ((c : Thread nD τ).loc main_arg3))
        ∗ ∃ X, owns (c : Thread nD τ) arg6 fullShare X)
      ⊢ runs c (body (at_ t) arg2 w₂ arg3 w₃ arg4 arg5 arg6) fun _ =>
        iprop(stateAt m c t.succ ∗ Owes c (owedAt c t.succ)
        ∗ owns (c : Thread nD τ) arg2 fullShare (m ((c : Thread nD τ).loc main_arg0)) ∗ owns (c : Thread nD τ) arg3 fullShare (m ((c : Thread nD τ).loc main_arg1))
        ∗ owns (c : Thread nD τ) arg4 fullShare (m ((c : Thread nD τ).loc main_arg2)) ∗ owns (c : Thread nD τ) arg5 fullShare (m ((c : Thread nD τ).loc main_arg3))
        ∗ owns (c : Thread nD τ) arg6 fullShare (tileAt m c t)) := by
  unfold owns tileAt
  iintro ⟨HS, HO, ⟨%f2, %e2, H2⟩, ⟨%f3, %e3, H3⟩, ⟨%f4, %e4, H4⟩, ⟨%f5, %e5, H5⟩, ⟨%X, %f6, -, H6⟩⟩
  iapply (point_run m c _ t w₂ w₃ e2 e3 e4 e5) $$ [HS HO H2 H3 H4 H5 H6]
  · isplitl [HS]; · iexact HS
    isplitl [HO]; · iexact HO
    isplitl [H2 H3]
    · unfold blocksIn
      isplitl [H2]; · iexact H2
      iexact H3
    isplitl [H4]; · iexact H4
    isplitl [H5]; · iexact H5
    unfold anyAt
    iexists f6
    iexact H6
  unfold blocksIn owns
  iintro ⟨HS, HO, ⟨H2, H3⟩, H4, H5, H6⟩
  isplitl [HS]; · iexact HS
  isplitl [HO]; · iexact HO
  isplitl [H2]
  · iexists f2
    isplitr; · ipureintro; exact e2
    iexact H2
  isplitl [H3]
  · iexists f3
    isplitr; · ipureintro; exact e3
    iexact H3
  isplitl [H4]
  · iexists f4
    isplitr; · ipureintro; exact e4
    iexact H4
  isplitl [H5]
  · iexists f5
    isplitr; · ipureintro; exact e5
    iexact H5
  iexact H6

end Body

set_option maxRecDepth 8000 in
/-- The obligation on the body at every point. -/
theorem body_obligation (c : Dev nD) : BodyObligation (dats m 0 c) (defs₀ (F := F)) 𝒱₀ () Set.univ := fun t => by
  rw [bigSep_W0, bigSep_W0]
  have hp := point_owned m c t (arg2 := st0_0 t) (arg3 := st0_1 t) (arg4 := st0_2 t) (arg5 := st0_3 t) (arg6 := st0_4 t)
    (hstage0_0 ((cfg0.slots t 0).cast nbuf0_0)) (hstage0_1 ((cfg0.slots t 1).cast nbuf0_1))
  rw [← body_eq (at_ t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))] at hp
  have hpre : iprop(stateAt m c t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ ∃ d, owns (c : Thread nD τ) (st0_4 t) fullShare ((dats m 0 c).before 4 t d))
    ⊢ iprop(stateAt m c t.castSucc ∗ Owes c (owedAt c t.castSucc)
        ∗ owns (c : Thread nD τ) (st0_0 t) fullShare (m ((c : Thread nD τ).loc main_arg0)) ∗ owns (c : Thread nD τ) (st0_1 t) fullShare (m ((c : Thread nD τ).loc main_arg1))
        ∗ owns (c : Thread nD τ) (st0_2 t) fullShare (m ((c : Thread nD τ).loc main_arg2)) ∗ owns (c : Thread nD τ) (st0_3 t) fullShare (m ((c : Thread nD τ).loc main_arg3))
        ∗ ∃ X, owns (c : Thread nD τ) (st0_4 t) fullShare X) := by
    iintro ⟨HS, HO, ⟨%d0, H0⟩, ⟨%d1, H1⟩, ⟨%d2, H2⟩, ⟨%d3, H3⟩, ⟨%d4, H4⟩⟩
    ihave HO := (owesAt_eq m c t.castSucc) $$ HO
    isplitl [HS]; · iexact HS
    isplitl [HO]; · iexact HO
    isplitl [H0]; · iapply (Entails.of_eq (congrArg (owns (c : Thread nD τ) (st0_0 t) fullShare) (before_x m c t d0))); iexact H0
    isplitl [H1]; · iapply (Entails.of_eq (congrArg (owns (c : Thread nD τ) (st0_1 t) fullShare) (before_w m c t d1))); iexact H1
    isplitl [H2]; · iapply (Entails.of_eq (congrArg (owns (c : Thread nD τ) (st0_2 t) fullShare) (before_sx m c t d2))); iexact H2
    isplitl [H3]; · iapply (Entails.of_eq (congrArg (owns (c : Thread nD τ) (st0_3 t) fullShare) (before_sw m c t d3))); iexact H3
    iexists _
    iexact H4
  have hpost : iprop(stateAt m c t.succ ∗ Owes c (owedAt c t.succ)
        ∗ owns (c : Thread nD τ) (st0_0 t) fullShare (m ((c : Thread nD τ).loc main_arg0)) ∗ owns (c : Thread nD τ) (st0_1 t) fullShare (m ((c : Thread nD τ).loc main_arg1))
        ∗ owns (c : Thread nD τ) (st0_2 t) fullShare (m ((c : Thread nD τ).loc main_arg2)) ∗ owns (c : Thread nD τ) (st0_3 t) fullShare (m ((c : Thread nD τ).loc main_arg3))
        ∗ owns (c : Thread nD τ) (st0_4 t) fullShare (tileAt m c t))
    ⊢ iprop(stateAt m c t.succ ∗ (dats m 0 c).owesAt () t.succ
        ∗ owns (c : Thread nD τ) (st0_0 t) fullShare (m ((c : Thread nD τ).loc main_arg0)) ∗ owns (c : Thread nD τ) (st0_1 t) fullShare (m ((c : Thread nD τ).loc main_arg1))
        ∗ owns (c : Thread nD τ) (st0_2 t) fullShare (m ((c : Thread nD τ).loc main_arg2)) ∗ owns (c : Thread nD τ) (st0_3 t) fullShare (m ((c : Thread nD τ).loc main_arg3))
        ∗ owns (c : Thread nD τ) (st0_4 t) fullShare (tileAt m c t)) :=
    sep_mono_right (sep_mono_left (owesAt_of m c t.succ))
  exact hpre.trans (hp.trans (wp_mono _ _ _ fun _ => hpost))

end Cert.KernelIdeal.Ag

end
-- ==== Proof.Deal.lean ====
/-
  The launch of the exchange: its rounds are started, its rights to count dealt to the devices that use them, and every
  semaphore put under its schedule.
-/
module

public import proofs.«01_k».proof.Proof.Credit
public import proofs.«01_k».proof.Proof.Obligation

@[expose] public section

noncomputable section

namespace Cert.KernelIdeal.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's own semaphores -/

/-- The kernel's own semaphores: the four of its local copies, and two for every flight. -/
abbrev Own : Type := Fin 4 ⊕ (Fl × Bool)

def osem : Own → SemLoc sig
  | .inl j => .dma ⟨6 + j.val, by have := j.isLt; show 6 + j.val < 70; omega⟩
  | .inr fr => keySem (some fr)

/-- Which semaphore of the exchange one of its own is. -/
theorem keyOf_osem (o : Own) : keyOf (osem o) = o.elim (fun _ => none) fun fr => some (some fr) := by
  match o with
  | .inl j => revert j; decide
  | .inr fr => exact keyOf_keySem (some fr)

theorem osem_injective : Function.Injective osem := fun a b h => by
  have e := congrArg keyOf h
  rw [keyOf_osem, keyOf_osem] at e
  match a, b with
  | .inl i, .inl j => exact congrArg Sum.inl (by revert i j; decide)
  | .inr f, .inr g => exact congrArg Sum.inr (Option.some.inj (Option.some.inj e))
  | .inl i, .inr g => nomatch e
  | .inr f, .inl j => nomatch e

theorem ownSemFacts : Pipeline.OwnSemFacts cfg0.spec osem where
  isScoped := by decide
  inj := osem_injective
  disj := by decide

/-- The four of the local copies at zero. -/
def locals (c : Dev nD) : sProp 𝕄 := bigSep Finset.univ fun j : Fin 4 => semVal ((c : Thread nD τ), osem (.inl j)) 0

omit [FloatOps F] in
/-- Everything the launch holds at zero: the four, and the semaphores of the exchange. -/
theorem sems_eq (c : Dev nD) :
    iprop(Pipeline.ownSems0 (Ix := Unit) (Name := ℕ) (U := UU) (Lvl := ℕ) (Val := Elt F) (τ := τ) osem c ∗ unscopedSems0 c)
      = (iprop(locals c ∗ bigSep Finset.univ fun k : Key => semVal (cell c k) 0) : sProp 𝕄) := by
  have hu : (unscopedSems0 c : sProp 𝕄) = semVal (cell c none) 0 := by
    unfold unscopedSems0; rw [bigSep_eq_bigSepL_of_eq [SemLoc.reg barS] (by decide) (by decide)]; rfl
  have hf : (bigSep Finset.univ fun fr : Fl × Bool => semVal ((c : Thread nD τ), osem (.inr fr)) 0 : sProp 𝕄)
      = iprop((bigSep Finset.univ fun f : Fl => semVal (cell c (some (f, false))) 0) ∗ bigSep Finset.univ fun f : Fl => semVal (cell c (some (f, true))) 0) := by
    rw [bigSep_univ_prod, bigSep_congr (s := Finset.univ) fun (f : Fl) _ => family_bool fun b => semVal ((c : Thread nD τ), osem (.inr (f, b))) 0, bigSep_sep']
    rfl
  unfold Pipeline.ownSems0 locals
  rw [hu, family_sum, hf, family_keys]
  refine same ?_ ?_
  · iintro ⟨⟨A, B, C⟩, D⟩
    isplitl [A]; · iexact A
    isplitl [D]; · iexact D
    isplitl [B]; · iexact B
    iexact C
  · iintro ⟨A, D, B, C⟩
    isplitr [D]
    · isplitl [A]; · iexact A
      isplitl [B]; · iexact B
      iexact C
    iexact D

/-! ## The rounds -/

theorem cell_injective : Function.Injective fun ck : Dev nD × Key => cell ck.1 ck.2 := fun a b h =>
  Prod.ext (cell_inj h).1 (cell_inj h).2

def exCells : Finset (GSem nD τ sig) := Finset.univ.map ⟨_, cell_injective⟩

/-- The rights to count a device's semaphores: two at its barrier, one at each of the others. -/
abbrev Right : Type := Bool ⊕ (Fl × Bool)

def rightOf (c : Dev nD) : Right → GSem nD τ sig × ℕ × Bool
  | .inl d => (cell c none, 0, d)
  | .inr fr => (cell c (some fr), 0, false)

theorem rightOf_injective : Function.Injective fun ci : Dev nD × Right => rightOf ci.1 ci.2 := fun a b h => by
  match a, b with
  | (c, .inl d), (c', .inl d') =>
    have e : cell c none = cell c' none ∧ (0, d) = (0, d') := Prod.mk.inj h
    obtain rfl : c = c' := (cell_inj e.1).1
    obtain rfl : d = d' := (Prod.mk.inj e.2).2
    rfl
  | (c, .inr f), (c', .inr g) =>
    have e : c = c' ∧ some f = some g := cell_inj (Prod.mk.inj h).1
    obtain ⟨rfl, e'⟩ := e
    obtain rfl : f = g := Option.some.inj e'
    rfl
  | (c, .inl d), (c', .inr g) => exact nomatch (cell_inj (Prod.mk.inj h).1).2
  | (c, .inr f), (c', .inl d) => exact nomatch (cell_inj (Prod.mk.inj h).1).2

def exRights : Finset (GSem nD τ sig × ℕ × Bool) := Finset.univ.map ⟨_, rightOf_injective⟩

def u₀ : UU := (initOf (Pipeline.cells cfgs cellOf_inj) (Pipeline.launchToks cfgs cellOf_inj), (initOf exCells exRights, 1))

/-- The rights to count device `c`'s semaphores, -/
def minted (c : Dev nD) : sProp 𝕄 :=
  bigSep Finset.univ fun i : Right => dutyTok ER (rightOf c i).1 (rightOf c i).2.1 (rightOf c i).2.2
/-- and the rights device `c` counts with. -/
def dealt (c : Dev nD) : sProp 𝕄 :=
  iprop((dutyTok ER (cell (rot c 15) none) 0 true ∗ dutyTok ER (cell (rot c 1) none) 0 false) ∗ bigSep Finset.univ fun f : Fl => toks c f)

omit [FloatOps F] in
theorem minted_eq (c : Dev nD) : (minted c : sProp 𝕄)
    = iprop((dutyTok ER (cell c none) 0 false ∗ dutyTok ER (cell c none) 0 true)
      ∗ (bigSep Finset.univ fun f : Fl => dutyTok ER (cell c (some (f, false))) 0 false) ∗ bigSep Finset.univ fun f : Fl => dutyTok ER (cell c (some (f, true))) 0 false) := by
  unfold minted
  rw [family_sum, family_bool, bigSep_univ_prod, bigSep_congr (s := Finset.univ) fun (f : Fl) _ =>
    family_bool fun b => dutyTok ER (rightOf c (.inr (f, b))).1 (rightOf c (.inr (f, b))).2.1 (rightOf c (.inr (f, b))).2.2, bigSep_sep']
  rfl

omit [FloatOps F] in
/-- Over devices and flights, in either order. -/
theorem either_order (Φ : Dev nD → Fl → sProp 𝕄) :
    (bigSep Finset.univ fun c : Dev nD => bigSep Finset.univ fun f : Fl => Φ c f) = bigSep Finset.univ fun f : Fl => bigSep Finset.univ fun c : Dev nD => Φ c f := by
  rw [← bigSep_univ_prod fun cf : Dev nD × Fl => Φ cf.1 cf.2, ← bigSep_univ_prod fun fc : Fl × Dev nD => Φ fc.2 fc.1]
  exact bigSep_univ_equiv (Equiv.prodComm Fl (Dev nD)) fun cf : Dev nD × Fl => Φ cf.1 cf.2

omit [FloatOps F] in
/-- A right to count where a flight lands belongs to the device it is sent from. -/
theorem landings_dealt (f : Fl) : (bigSep Finset.univ fun c : Dev nD => (dutyTok ER (cell c (some (f, true))) 0 false : sProp 𝕄))
    = bigSep Finset.univ fun c : Dev nD => dutyTok ER (cell (dst c f.1) (some (f, true))) 0 false :=
  bigSep_univ_equiv (along f.1) fun c : Dev nD => (dutyTok ER (cell c (some (f, true))) 0 false : sProp 𝕄)

omit [FloatOps F] in
theorem deal : (bigSep Finset.univ fun c : Dev nD => (minted c : sProp 𝕄)) ⊢ bigSep Finset.univ fun c : Dev nD => dealt c := by
  unfold dealt toks
  simp only [minted_eq, bigSep_sep']
  rw [either_order fun (c : Dev nD) (f : Fl) => (dutyTok ER (cell c (some (f, true))) 0 false : sProp 𝕄),
    bigSep_congr (s := Finset.univ) fun (f : Fl) _ => landings_dealt f,
    ← either_order fun (c : Dev nD) (f : Fl) => (dutyTok ER (cell (dst c f.1) (some (f, true))) 0 false : sProp 𝕄),
    bigSep_univ_equiv (along (.inl 0)) fun c : Dev nD => (dutyTok ER (cell c none) 0 false : sProp 𝕄),
    bigSep_univ_equiv (along (.inr 0)) fun c : Dev nD => (dutyTok ER (cell c none) 0 true : sProp 𝕄)]
  iintro ⟨⟨A, B⟩, C, D⟩
  isplitl [A B]
  · isplitl [B]; · iexact B
    iexact A
  isplitl [C]; · iexact C
  iexact D

/-- What the launch deals device `c`. -/
def G (c : Dev nD) : sProp 𝕄 :=
  iprop((bigSep Finset.univ fun k : Key => roundState ER (Rd m) (cell c k) 0) ∗ (bigSep Finset.univ fun k : Key => reached ER (cell c k) 0)
    ∗ (bigSep Finset.univ fun k : Key => atPos ER (cell c k) 0 ∅ 0) ∗ minted c)

omit [FloatOps F] in
theorem over_cells (Φ : GSem nD τ sig → sProp 𝕄) :
    bigSep exCells Φ = bigSep Finset.univ fun c : Dev nD => bigSep Finset.univ fun k : Key => Φ (cell c k) := by
  unfold exCells; rw [bigSep_map, bigSep_univ_prod]; rfl

omit [FloatOps F] in
theorem fund_exchange : BI.own (ER (initOf exCells exRights)) ⊢ (|==> bigSep Finset.univ (G m) : sProp 𝕄) := by
  have hT : bigSep exRights (fun x => (dutyTok ER x.1 x.2.1 x.2.2 : sProp 𝕄)) = bigSep Finset.univ fun c : Dev nD => minted c := by
    unfold exRights minted; rw [bigSep_map, bigSep_univ_prod]; rfl
  iintro H
  imod (Rounds.fund ER (Rd m) exCells exRights) $$ H with ⟨Hs, Hr, Ha, Ht⟩
  imodintro
  ihave Hs := (Entails.of_eq (over_cells fun g => roundState ER (Rd m) g 0)) $$ Hs
  ihave Hr := (Entails.of_eq (over_cells fun g => reached ER g 0)) $$ Hr
  ihave Ha := (Entails.of_eq (over_cells fun g => atPos ER g 0 ∅ 0)) $$ Ha
  ihave Ht := (Entails.of_eq hT) $$ Ht
  unfold G
  simp only [bigSep_sep']
  isplitl [Hs]; · iexact Hs
  isplitl [Hr]; · iexact Hr
  isplitl [Ha]; · iexact Ha
  iexact Ht

/-! ## Every semaphore under its schedule -/

/-- What the devices share: the schedule of every semaphore, and that each is in its first round. -/
def marks (K : Dev nD × Key → ℕ) : sProp 𝕄 :=
  iprop((bigSep Finset.univ fun ck : Dev nD × Key => cellInv ER (Rd m) (K ck) (cell ck.1 ck.2))
    ∗ bigSep Finset.univ fun ck : Dev nD × Key => reached ER (cell ck.1 ck.2) 0)
instance marks_persistent (K : Dev nD × Key → ℕ) : BI.Persistent (marks m K) := by unfold marks; infer_instance

/-- What stays with device `c`. -/
def held (c : Dev nD) : sProp 𝕄 := iprop(dealt c ∗ (bigSep Finset.univ fun k : Key => atPos ER (cell c k) 0 ∅ 0) ∗ locals c)

def G' (c : Dev nD) : sProp 𝕄 := iprop(∃ K, marks m K ∗ held c)

omit [FloatOps F] in
theorem device_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Key => iprop(∃ κ : ℕ, cellInv ER (Rd m) κ (cell c k)))
          ∗ (bigSep Finset.univ fun k : Key => reached ER (cell c k) 0) ∗ minted c ∗ (bigSep Finset.univ fun k : Key => atPos ER (cell c k) 0 ∅ 0) ∗ locals c) := by
  have hi : iprop((bigSep Finset.univ fun k : Key => semVal (cell c k) 0) ∗ bigSep Finset.univ fun k : Key => roundState ER (Rd m) (cell c k) 0)
      ⊢ (|={Set.univ}=> bigSep Finset.univ fun k : Key => iprop(∃ κ : ℕ, cellInv ER (Rd m) κ (cell c k)) : sProp 𝕄) := by
    rw [← bigSep_sep']
    exact (bigSep_mono fun k _ => (Rounds.body_intro ER (Rd m) (cell c k)).trans inv_alloc).trans (bigSep_fupd _ _)
  unfold G
  iintro ⟨Ho, Hu, Hs, Hr, Ha, Ht⟩
  ihave H := (Entails.of_eq (sems_eq c)) $$ [Ho Hu]
  · isplitl [Ho]; · iexact Ho
    iexact Hu
  icases H with ⟨Hl, Hv⟩
  imod hi $$ [Hv Hs] with HI
  · isplitl [Hv]; · iexact Hv
    iexact Hs
  imodintro
  isplitl [HI]; · iexact HI
  isplitl [Hr]; · iexact Hr
  isplitl [Ht]; · iexact Ht
  isplitl [Ha]; · iexact Ha
  iexact Hl

omit [FloatOps F] in
/-- Something shared goes to every member of a family. -/
theorem share_out {I : Type} [DecidableEq I] {S : Finset I} {R : sProp 𝕄} [BI.Persistent R] {Φ Ψ : I → sProp 𝕄} (h : ∀ i, iprop(R ∗ Φ i) ⊢ Ψ i) :
    iprop(R ∗ bigSep S Φ) ⊢ bigSep S Ψ :=
  (sep_mono_left (BI.bigSep_of_persistent S R)).trans (by rw [← bigSep_sep']; exact bigSep_mono fun i _ => h i)

omit [FloatOps F] in
theorem regroup :
    (bigSep Finset.univ fun c : Dev nD => iprop((bigSep Finset.univ fun k : Key => iprop(∃ κ : ℕ, cellInv ER (Rd m) κ (cell c k)))
          ∗ (bigSep Finset.univ fun k : Key => reached ER (cell c k) 0) ∗ minted c ∗ (bigSep Finset.univ fun k : Key => atPos ER (cell c k) 0 ∅ 0) ∗ locals c) : sProp 𝕄)
      ⊢ bigSep Finset.univ (G' m) := by
  have hh : iprop((bigSep Finset.univ fun c : Dev nD => (dealt c : sProp 𝕄)) ∗ bigSep Finset.univ fun c : Dev nD => iprop((bigSep Finset.univ fun k : Key => atPos ER (cell c k) 0 ∅ 0) ∗ locals c))
      ⊢ bigSep Finset.univ fun c : Dev nD => held c := Entails.of_eq (bigSep_sep' _ _ _).symm
  rw [bigSep_sep', bigSep_sep', bigSep_sep', ← bigSep_univ_prod (fun ck : Dev nD × Key => iprop(∃ κ : ℕ, cellInv ER (Rd m) κ (cell ck.1 ck.2))),
    ← bigSep_univ_prod (fun ck : Dev nD × Key => (reached ER (cell ck.1 ck.2) 0 : sProp 𝕄))]
  iintro ⟨HI, #HR, Ht, Ha⟩
  ihave HK := (BI.bigSep_exists_pi Finset.univ (fun (ck : Dev nD × Key) (κ : ℕ) => (cellInv ER (Rd m) κ (cell ck.1 ck.2) : sProp 𝕄))) $$ HI
  icases HK with ⟨%K, #HI⟩
  ihave Ht := (deal (F := F)) $$ Ht
  iapply (share_out (R := marks m K) (Φ := held) (Ψ := G' m) fun c => by unfold G'; iintro H; iexists K; iexact H)
  isplitr
  · unfold marks
    isplitl; · iexact HI
    iexact HR
  iapply hh
  isplitl [Ht]; · iexact Ht
  iexact Ha

omit [FloatOps F] in
/-- The launch as a whole. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => device_alloc m c).trans (bigSep_fupd _ _)).trans (BI.fupd_mono (regroup m))

end Cert.KernelIdeal.Ag

end
-- ==== Proof.Launch.lean ====
/-
  The run of the kernel on the sixteen devices: what each starts with is what its first point asks for, what its last
  point leaves is what it must return, and so every run ends, with the arrays as the points leave them.
-/
module

public import proofs.«01_k».proof.Proof.Deal
public import Idealize.ShloMosaic.Lib.Pipeline.CollectiveSegs

@[expose] public section

noncomputable section

namespace Cert.KernelIdeal.Ag

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What the arrays are split into -/

omit [FloatOps F] in
/-- The rooms of the two gathered arrays: the device's own, and one for each flight it receives. -/
theorem rooms_around :
    iprop((bigSep Finset.univ fun s : Dev nD => room false c s) ∗ bigSep Finset.univ fun s : Dev nD => room true c s)
      ⊢ (iprop((room false c c ∗ room true c c) ∗ bigSep Finset.univ fun f : Fl => room f.2 c (got c f.1)) : sProp 𝕄) := by
  rw [family_strips c (fun s : Dev nD => room false c s), family_strips c (fun s : Dev nD => room true c s),
    bigSep_univ_prod, bigSep_congr (s := Finset.univ) fun (k : Hop) _ => family_bool fun b => room b c (got c k), bigSep_sep',
    family_sum (fun k : Hop => (room false c (got c k) : sProp 𝕄)), family_sum (fun k : Hop => (room true c (got c k) : sProp 𝕄))]
  iintro ⟨⟨A, B⟩, C, D⟩
  isplitl [A C]
  · isplitl [A]; · iexact A
    iexact C
  isplitl [B]; · iexact B
  iexact D

theorem slots_disjoint (s s' : Fin 2) (h : s ≠ s') : Disjoint (sSet s.val) (sSet s'.val) := by
  rw [sSet_eq, sSet_eq]
  exact Ring.lead_disjoint (s := S2x4096x1024) (NB := 2) 0 1 (fun n => sOff n.val) S1x4096x1024.size (fun n => sOff_inb n.val)
    (by decide) rfl s s' h

theorem slots_cover : Finset.univ.biUnion (fun s : Fin 2 => sSet s.val) = Finset.univ := by
  have h : (fun n : Fin 2 => sSet n.val) = fun n : Fin 2 => (Rect.unit (s := S2x4096x1024) (sOff n.val) S1x4096x1024.size (sOff_inb n.val)).set :=
    funext fun n => sSet_eq n.val
  rw [h]
  exact Ring.lead_cover (s := S2x4096x1024) (NB := 2) 0 1 (fun n => sOff n.val) S1x4096x1024.size (fun n => sOff_inb n.val)
    (by decide) (by decide) rfl (by decide) rfl

omit [FloatOps F] in
theorem slots_two : (bigSep Finset.univ fun s : Fin 2 => slotAny c s.val : sProp 𝕄) = iprop(slotAny c 0 ∗ slotAny c 1) :=
  bigSep_univ_eq_bigSepL [0, 1] (by decide) (by decide) _

omit [FloatOps F] in
theorem slots_split : (iprop(∃ f, sLoc c ↦{fullShare} f) : sProp 𝕄) ⊢ iprop(slotAny c 0 ∗ slotAny c 1) := by
  rw [← slots_two]
  iintro ⟨%f, H⟩
  ihave H' := (Entails.of_eq (Ring.pointsTo_blocks (ℓ := sLoc c) (q := fullShare) (fun s : Fin 2 => sSet s.val) slots_disjoint slots_cover f)) $$ H
  have h : (bigSep Finset.univ fun s : Fin 2 => (sLoc c ↦[sSet s.val]{fullShare} f : sProp 𝕄)) ⊢ bigSep Finset.univ fun s : Fin 2 => slotAny c s.val :=
    bigSep_mono fun s _ => show (sLoc c ↦[sSet s.val]{fullShare} f : sProp 𝕄) ⊢ slotAny c s.val from by
      iintro H; unfold slotAny anyAt; iexists f; iexact H
  iapply h
  iexact H'

omit [FloatOps F] in
theorem slots_join : (iprop(slotAny c 0 ∗ slotAny c 1) : sProp 𝕄) ⊢ iprop(∃ f, sLoc c ↦{fullShare} f) := by
  have h : ∀ f₀ : Buf (Elt F) (sLoc c), (bigSep Finset.univ fun s : Fin 2 => (slotAny c s.val : sProp 𝕄)) ⊢ iprop(∃ f, sLoc c ↦{fullShare} f) := fun f₀ =>
    Ring.pointsTo_blocks_join_exists (ℓ := sLoc c) (q := fullShare) (fun s : Fin 2 => sSet s.val) slots_disjoint slots_cover f₀
  rw [slots_two] at h
  have ho : (slotAny c 0 : sProp 𝕄) ⊢ iprop(∃ f, sLoc c ↦[sSet 0]{fullShare} f) := Entails.refl _
  iintro ⟨A, B⟩
  ihave A := ho $$ A
  icases A with ⟨%f, A⟩
  iapply (h f)
  isplitl [A]
  · unfold slotAny anyAt; iexists f; iexact A
  iexact B

/-! ## The first point -/

/-- What device `c` starts with. -/
def start : sProp 𝕄 :=
  iprop((∃ K, records m K) ∗ held c ∗ (cred (tallyAt (cell c none) () 2) ∗ bigSep Finset.univ fun f : Fl => cred (tallyAt (cell c (some (f, true))) () (amt f.2)))
    ∗ (∃ f, wLoc c ↦{fullShare} f))

omit [FloatOps F] in
theorem start_intro :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  have hr : (Pipeline.unscopedRestP Pipeline.Prefetch.none cfg0.spec c (fun b => m ((c : Thread nD τ).loc b)) : sProp 𝕄)
      = iprop(((c : Thread nD τ).loc main_v1_1) ↦{fullShare} m ((c : Thread nD τ).loc main_v1_1)) :=
    Pipeline.unscopedRestP_eq_of_list cfg0.spec c Pipeline.Prefetch.none _ [main_v1_1] (by decide) (by decide)
  rw [hr]
  iintro ⟨Hw, #Hlev, Hcr, -, HG⟩
  ihave Hc := (credits (F := F) c) $$ Hcr
  unfold G'
  icases HG with ⟨%K, #HM, HH⟩
  unfold marks
  icases HM with ⟨HI, HR⟩
  imodintro
  unfold start
  isplitl
  · isplitr
    · iexists K
      unfold records
      isplitr; · iexact HI
      isplitr; · iexact HR
      iexact Hlev
    isplitl [HH]; · iexact HH
    isplitl [Hc]; · iexact Hc
    iexists m ((c : Thread nD τ).loc main_v1_1)
    iexact Hw
  · iempintro

omit [FloatOps F] in
theorem locals_eq : (locals c : sProp 𝕄) = iprop(semVal ((c : Thread nD τ), .dma cc0_scratch2.sem) 0 ∗ semVal ((c : Thread nD τ), .dma cc0_scratch3.sem) 0
    ∗ semVal ((c : Thread nD τ), .dma cc0_scratch4.sem) 0 ∗ semVal ((c : Thread nD τ), .dma cc0_scratch5.sem) 0) :=
  bigSep_univ_eq_bigSepL [0, 1, 2, 3] (by decide) (by decide) _

omit [FloatOps F] in
theorem waits_ready :
    iprop((bigSep Finset.univ fun f : Fl => atPos ER (cell c (some (f, false))) 0 ∅ 0) ∗ (bigSep Finset.univ fun f : Fl => atPos ER (cell c (some (f, true))) 0 ∅ 0)
      ∗ bigSep Finset.univ fun f : Fl => cred (tallyAt (cell c (some (f, true))) () (amt f.2)))
      = (bigSep Finset.univ fun f : Fl => toWait c f : sProp 𝕄) := by
  unfold toWait; rw [bigSep_sep', bigSep_sep']

omit [FloatOps F] in
theorem entry_intro :
    iprop(held c ∗ (cred (tallyAt (cell c none) () 2) ∗ bigSep Finset.univ fun f : Fl => cred (tallyAt (cell c (some (f, true))) () (amt f.2)))
        ∗ (∃ f, wLoc c ↦{fullShare} f) ∗ (∃ f, xLoc c ↦{fullShare} f) ∗ (∃ f, sLoc c ↦{fullShare} f))
      ⊢ (entry c : sProp 𝕄) := by
  unfold held dealt entry ownSems
  rw [family_keys, locals_eq, ← waits_ready]
  iintro ⟨⟨⟨Hb, Ht⟩, ⟨Ha, As, Ar⟩, S2, S3, S4, S5⟩, ⟨C2, Cf⟩, Hw, Hx, Hs⟩
  ihave Hx := (rooms_x (F := F) c) $$ Hx
  ihave Hw := (rooms_w (F := F) c) $$ Hw
  ihave Hs := (slots_split (F := F) c) $$ Hs
  icases Hs with ⟨Sa, Sb⟩
  ihave H := (rooms_around (F := F) c) $$ [Hx Hw]
  · isplitl [Hx]; · iexact Hx
    iexact Hw
  icases H with ⟨Hown, Hrooms⟩
  isplitl [Hb Ht Ha As Ar S2 S3 C2 Cf Hown Hrooms]
  · isplitl [Hb Ha C2 Hrooms]
    · isplitl [Hb]; · iexact Hb
      isplitl [Hrooms]; · iexact Hrooms
      isplitl [Ha]; · iexact Ha
      iexact C2
    isplitl [Hown]; · iexact Hown
    isplitl [S2 S3]
    · isplitl [S2]; · iexact S2
      iexact S3
    isplitl [Ht]; · iexact Ht
    isplitl [As]; · iexact As
    isplitl [Ar]; · iexact Ar
    iexact Cf
  isplitl [Sa]; · iexact Sa
  isplitl [Sb]; · iexact Sb
  isplitl [S4]; · iexact S4
  iexact S5

theorem first_point :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = (iprop(∃ K, records m K ∗ entry c) : sProp 𝕄) from rfl, scopedRest0_eq]
  unfold start
  iintro ⟨⟨⟨%K, HR⟩, Hh, Hc, Hw⟩, -, Hx, Hs⟩
  iexists K
  isplitl [HR]; · iexact HR
  iapply (entry_intro (F := F) c)
  isplitl [Hh]; · iexact Hh
  isplitl [Hc]; · iexact Hc
  isplitl [Hw]; · iexact Hw
  isplitl [Hx]; · iexact Hx
  iexact Hs

/-! ## The last point -/

omit [FloatOps F] in
/-- The semaphores of the exchange at zero, over the hops and over the semaphores. -/
theorem zeros_keys : iprop(semVal (cell c none) 0 ∗ bigSep Finset.univ fun k : Hop => zeros c k) ⊢ (bigSep Finset.univ fun k : Key => semVal (cell c k) 0 : sProp 𝕄) := by
  rw [family_keys, bigSep_univ_prod, bigSep_univ_prod,
    bigSep_congr (s := Finset.univ) fun (k : Hop) _ => family_bool fun b => (semVal (cell c (some ((k, b), false))) 0 : sProp 𝕄),
    bigSep_congr (s := Finset.univ) fun (k : Hop) _ => family_bool fun b => (semVal (cell c (some ((k, b), true))) 0 : sProp 𝕄)]
  unfold zeros
  rw [bigSep_sep', bigSep_sep', bigSep_sep', bigSep_sep', bigSep_sep']
  iintro ⟨N, ⟨A, B⟩, C, D⟩
  isplitl [N]; · iexact N
  isplitl [A C]
  · isplitl [A]; · iexact A
    iexact C
  isplitl [B]; · iexact B
  iexact D

theorem last_point :
    (dats m 0 c).Φ (Fin.last cfg0.N) ⊢ iprop(unscopedSems0 c ∗ Pipeline.ownSems0 osem c ∗ Pipeline.scopedRest cfg0.spec c) := by
  have ha : ahead m c 8 = iprop(slotAny c 0 ∗ semVal ((c : Thread nD τ), .dma cc0_scratch5.sem) 0) := by
    unfold ahead
    rw [dif_neg (by decide), slotAny_two c 6, slotAny_two c 4, slotAny_two c 2, slotAny_two c 0]
  have h7 : slot m c 7 ⊢ slotAny c 1 := (slot_any m c 7).trans (Entails.of_eq
    ((slotAny_two c 5).trans ((slotAny_two c 3).trans (slotAny_two c 1))))
  have hp : (dats m 0 c).Φ (Fin.last cfg0.N) = iprop(∃ K, records m K ∗ gathered m c ∗ slot m c 7 ∗ ahead m c 8
      ∗ (bigSep (finFrom 8 9) fun j => col m c j) ∗ semVal ((c : Thread nD τ), .dma cc0_scratch4.sem) 0) := rfl
  have hs : iprop(locals c ∗ bigSep Finset.univ fun k : Key => semVal (cell c k) 0)
      ⊢ (iprop(unscopedSems0 c ∗ Pipeline.ownSems0 osem c) : sProp 𝕄) := (Entails.of_eq (sems_eq c).symm).trans (Entails.of_eq (swap _ _))
  have hx : (xLoc c ↦{fullShare} xAll m : sProp 𝕄) ⊢ iprop(∃ f, xLoc c ↦{fullShare} f) := by iintro H; iexists _; iexact H
  rw [hp, ha, scopedRest0_eq]
  unfold gathered ownSems
  iintro ⟨%K, -, ⟨⟨N, ⟨S2, S3⟩, Z⟩, X⟩, Sl, ⟨Sa, S5⟩, -, S4⟩
  ihave Sl := h7 $$ Sl
  ihave Z := (zeros_keys (F := F) c) $$ [N Z]
  · isplitl [N]; · iexact N
    iexact Z
  ihave H := hs $$ [Z S2 S3 S4 S5]
  · isplitr [Z]
    · iapply (Entails.of_eq (locals_eq (F := F) c).symm)
      isplitl [S2]; · iexact S2
      isplitl [S3]; · iexact S3
      isplitl [S4]; · iexact S4
      iexact S5
    iexact Z
  icases H with ⟨U, O⟩
  isplitl [U]; · iexact U
  isplitl [O]; · iexact O
  isplitl [X]; · iapply hx; iexact X
  iapply (slots_join (F := F) c)
  isplitl [Sa]; · iexact Sa
  iexact Sl

/-! ## The run -/

theorem share_eq (w : Fin cfg0.W) : (dats m 0 c).share w = fullShare := by unfold Dat.share; split <;> rfl

theorem above_owedAt (t : Fin 65) : Above 1 (owedAt c t) := by
  unfold owedAt
  split
  · exact above_owed₀ c
  · exact above_zero 1

theorem waits : (levAts L lv : sProp 𝕄) ⊢ Pipeline.cellsWaits cfgs (dats m) () 0 c :=
  Pipeline.cellsWaits_intro cfgs (dats m) () 0 c fun w s t => mayWait_of_above c _ (by
    have h : lv ((c : Thread nD τ), .dma (((cfgs 0).win w).sem s)) () = 0 := by fin_cases w <;> fin_cases s <;> rfl
    rw [h]
    exact above_owedAt c t)

/-- What array `w` of device `c` ends at. -/
def finalA (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every run of the sixteen devices, from any memory with every semaphore at zero, ends, with every device's arrays at
    what the points leave and every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (show BI.own (((Emb.inl : Emb UB (UB × Counters)).trans embR) (initOf exCells exRights)) ⊢ (|==> bigSep Finset.univ (G m) : sProp (MT nD τ sig Unit (Elt F) ℕ UU ℕ)) from
        fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := first_point m) (hout := last_point m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ag
-- ==== Proof.Frames.lean ====
/-
  The frames: every run of the kernel ends, with its arguments as they were and every semaphore at zero. The program read
  with exact floats is the same text, so one run serves both.
-/
module

public import proofs.«01_k».proof.Defs
public import proofs.«01_k».proof.Proof.Launch
public import proofs.«01_k».proof.Proof.Gen.Kernel

@[expose] public section

noncomputable section

namespace Cert.KernelIdeal.Ag

open Cert.KernelIdeal Cert.KernelIdeal.Gen
open Idealize.ShloMosaic
open Idealize.ShloMosaic.TcCoe
open Idealize.SL.Sem

variable {F : FTy → Type} [FloatOps F] (m : (ℓ : Loc nD τ sig) → Buf (Elt F) ℓ) (ρ : Dev nD → PrngReg) (c : Dev nD)

/-- The arguments of device `c` are as they were. -/
def ArgsKept (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

theorem args_kept (r : PUnit × MemSt nD τ sig (Elt F)) (h : QC m r) : ArgsKept m c r.2 :=
  ⟨(h c (0 : Fin 5)).trans ((dats m 0 c).arrAt_in (0 : Fin 5) rfl _), (h c (1 : Fin 5)).trans ((dats m 0 c).arrAt_in (1 : Fin 5) rfl _),
    (h c (2 : Fin 5)).trans ((dats m 0 c).arrAt_in (2 : Fin 5) rfl _), (h c (3 : Fin 5)).trans ((dats m 0 c).arrAt_in (3 : Fin 5) rfl _)⟩

theorem run_kept : θ_run defs (onTc (τ := τ) (main (F := F))) ⟨m, fun _ => 0, ρ⟩ (fun r => (∀ c : Dev nD, ArgsKept m c r.2) ∧ r.2.sem = fun _ => 0) :=
  (θ_run defs _ _).mono (fun r h => ⟨fun c => args_kept m c r h.1, h.2⟩) (run_main m ρ)

theorem frame_ideal : Cert.quiescent_KernelIdeal := fun m ρ _ => run_kept m ρ

/-- The same of machine floats, in the words of the text read with exact ones. -/
def KeptAtBits : Prop := ∀ (m : (ℓ : Loc nD τ sig) → Buf (Elt Bits) ℓ) (ρ : Dev nD → PrngReg), True →
  θ_run (defs (F := Bits)) (onTc (τ := τ) (main (F := Bits))) ⟨m, fun _ => 0, ρ⟩ (fun r => (∀ c : Dev nD, ArgsKept m c r.2) ∧ r.2.sem = fun _ => 0)

/-- The two texts are one. -/
theorem same_text : KeptAtBits = Cert.quiescent_Kernel := by sl_kernel_rfl

theorem frame_kernel : Cert.quiescent_Kernel := same_text.mp fun m ρ _ => run_kept (F := Bits) m ρ

end Cert.KernelIdeal.Ag
-- ==== Proof.Gate.lean ====
/-
  The arithmetic of one element of the result, with exact floats: the activation `y / (1 + e^(-clip y))`, and the same
  written as a product with a quotient.
-/
module

public import Idealize.ShloMosaic.PureOps.Ideal.Laws
public import Idealize.ShloMosaic.Lib.IdealHost

@[expose] public section

noncomputable section

namespace Cert.KernelIdeal.Ag

open Idealize.ShloMosaic
open scoped BigOperators

/-- Row `i` of `x` times column `j` of `w`, scaled by `sx` and `sw`. -/
def scaled (x : Fin 4096 → Fin 4096 → EReal) (w : Fin 4096 → Fin 8192 → EReal) (sx sw : EReal) (i : Fin 4096) (j : Fin 8192) : EReal :=
  (∑ k : Fin 4096, x i k * w k j) * (sx * sw)

/-- `y` held between the words for −60 and 60. -/
def clipped (y : EReal) : EReal := min (Ideal.ofBits .f32 0x42700000#32) (max (Ideal.ofBits .f32 0xC2700000#32) y)

/-- What `y` is divided by. -/
def gateDen (y : EReal) : EReal := 1 + Ideal.exp (0 - clipped y)

/-- One element of the result, from the scaled product `y`. -/
def gate (y : EReal) : EReal := Ideal.div y (gateDen y)

theorem exp_nonneg (z : EReal) : 0 ≤ Ideal.exp z := by
  induction z with
  | bot => exact le_refl _
  | top => exact le_top
  | coe r => exact EReal.coe_nonneg.mpr (Real.exp_pos r).le

theorem gateDen_ne_zero (y : EReal) : gateDen y ≠ 0 := by
  have h : (1 : EReal) ≤ gateDen y := le_add_of_nonneg_right (exp_nonneg _)
  exact (lt_of_lt_of_le zero_lt_one h).ne'

/-- The product with the quotient is the quotient. -/
theorem mul_gate (y : EReal) : y * Ideal.div 1 (gateDen y) = gate y := by
  unfold gate Ideal.div
  rw [if_neg (gateDen_ne_zero y), if_neg (gateDen_ne_zero y), one_mul]

end Cert.KernelIdeal.Ag
-- ==== Proof.Result.lean ====
/-
  The result of the kernel, element by element, with exact floats: row `i`, column `j` is the gate of the scaled product of
  row `i` of the gathered activation with column `j` of the gathered weight.
-/
module

public import proofs.«01_k».proof.Proof.Gate
public import proofs.«01_k».proof.Proof.Launch
public import Idealize.ShloMosaic.Lib.MatmulPlain
public import Idealize.ShloMosaic.Lib.Pipeline.Value
public import Idealize.ShloMosaic.Lib.ValueIdx

@[expose] public section

noncomputable section

namespace Cert.KernelIdeal.Ag

open Cert.KernelIdeal Cert.KernelIdeal.Gen
open Idealize.ShloMosaic
open Idealize.ShloMosaic.TcCoe
open Idealize.ShloMosaic.ValueIdx
open scoped BigOperators

variable (m : (ℓ : Loc nD τ sig) → Buf (Elt Ideal) ℓ) (c : Dev nD)

/-! ## One element of a tile -/

theorem dot_plain : dot_S512x4096_S4096x1024_S512x1024_1_0_0_1_n_n = DotDims.plain 512 4096 1024 := rfl

/-- The scaled product a point computes, at one element. -/
theorem scaled_apply (x : FVec Ideal S512x4096 .fp8e4m3) (w : FVec Ideal S1x4096x1024 .fp8e4m3) (sx sw : Elt Ideal .f32) (p : Fin 512) (q : Fin 1024) :
    k0_pay2 x w sx sw (ix2 p q) = (∑ k : Fin 4096, x (ix2 p k) * w (ix3 0 k q)) * (sx * sw) := by
  unfold k0_pay2
  simp only [matmul, mulf_apply, dot_plain]
  rw [Ideal.matmul_plain_apply, constant_apply, Ideal.ofBits_zero_f32, zero_add]
  refine congrArg₂ (· * ·) (Finset.sum_congr rfl fun k _ => congrArg (x (ix2 p k) * ·) ?_) rfl
  rw [shapeCast_dropUnit_apply]
  refine congrArg w (funext fun a => ?_)
  match a with
  | ⟨0, _⟩ => rfl
  | ⟨1, _⟩ => rfl
  | ⟨2, _⟩ => rfl

/-- The point's last product, at one element. -/
theorem gated_apply (y d : FVec Ideal S512x1024 .f32) (j : S512x1024.Idx) (h : d j = clipped (y j)) : k0_pay1 y d j = gate (y j) := by
  rw [← mul_gate]
  unfold gateDen
  rw [← h, ← Ideal.ofBits_one_f32, ← Ideal.ofBits_zero_f32]
  rfl

theorem clip_apply (x : FVec Ideal S512x4096 .fp8e4m3) (w : FVec Ideal S1x4096x1024 .fp8e4m3) (sx sw : Elt Ideal .f32) (j : S512x1024.Idx) :
    k0_pay3 x w sx sw j = clipped (k0_pay2 x w sx sw j) := rfl

/-- The scaled product of row `i` with column `j` of the gathered arrays, with the scales of device `c`. -/
def kernelScaled (i : Fin 4096) (j : Fin 8192) : EReal :=
  scaled (fun i k => xAll m (ix2 (n0 := 4096) (n1 := 4096) i k)) (fun k j => wAll m (ix2 (n0 := 4096) (n1 := 8192) k j))
    (m ((c : Thread nD τ).loc main_arg2) (ix1 (n := 1) 0)) (m ((c : Thread nD τ).loc main_arg3) (ix1 (n := 1) 0)) i j

def rowOf (r : Fin 8) (p : Fin 512) : Fin 4096 := ⟨512 * r.val + p.val, by omega⟩
def colOf (n : Fin 8) (q : Fin 1024) : Fin 8192 := ⟨1024 * n.val + q.val, by omega⟩

theorem tileAt_apply (t : Fin 64) (p : Fin 512) (q : Fin 1024) :
    tileAt m c t (ix2 p q) = gate (kernelScaled m c (rowOf (mOf t) p) (colOf (nOf t) q)) := by
  unfold tileAt tile
  rw [gated_apply _ _ _ (clip_apply _ _ _ _ _), scaled_apply]
  rfl

/-! ## The tiles in the array -/

theorem index4 : ∀ t t' : Fin cfg0.N, win0_4.index t = win0_4.index t' → t = t' :=
  (by decide +kernel : ∀ t t' : Fin grid0.N, win0_4.index t = win0_4.index t' → t = t')

theorem apart4 (t t' : Fin cfg0.N) (_ : (cfg0.win 4).flush t = true) (_ : (cfg0.win 4).flush t' = true) (h : t ≠ t') :
    Disjoint ((cfg0.win 4).blk t).view.set ((cfg0.win 4).blk t').view.set :=
  (cfg0.win 4).disjoint_blk fun e => h (index4 t t' e)

theorem index4_eq : ∀ t : Fin 64, win0_4.index t 0 = (mOf t).val ∧ win0_4.index t 1 = (nOf t).val :=
  (by decide +kernel : ∀ t : Fin grid0.N, win0_4.index t 0 = t.val % 8 ∧ win0_4.index t 1 = t.val / 8)

/-- Block `t` of the result is tile `t`. -/
theorem final_tile (t : Fin 64) (y : S512x1024.Idx) :
    finalA m c 4 (((cfg0.win 4).blk t).view.emb y) = tileAt m c t y :=
  congrFun ((dats m 0 c).read_blk_arrAt_eq_flushed 4 apart4 cfg0.N t t.isLt (flush0_4 t)) y

theorem place4 (t : Fin 64) (p : Fin 512) (q : Fin 1024) :
    ((cfg0.win 4).blk t).view.emb (ix2 p q) = ix2 (rowOf (mOf t) p) (colOf (nOf t) q) := by
  have e0 : win0_4.index t 0 = (mOf t).val := (index4_eq t).1
  have e1 : win0_4.index t 1 = (nOf t).val := (index4_eq t).2
  funext a
  match a with
  | ⟨0, _⟩ => exact Fin.ext (by show win0_4.index t 0 * 512 + 1 * p.val = 512 * (mOf t).val + p.val; rw [e0]; omega)
  | ⟨1, _⟩ => exact Fin.ext (by show win0_4.index t 1 * 1024 + 1 * q.val = 1024 * (nOf t).val + q.val; rw [e1]; omega)

/-- Every element of the result. -/
theorem final_apply (i : Fin 4096) (j : Fin 8192) : finalA m c 4 (ix2 i j) = gate (kernelScaled m c i j) := by
  let t : Fin 64 := ⟨8 * (j.val / 1024) + i.val / 512, by omega⟩
  let p : Fin 512 := ⟨i.val % 512, by omega⟩
  let q : Fin 1024 := ⟨j.val % 1024, by omega⟩
  have ei : rowOf (mOf t) p = i := Fin.ext (by show 512 * ((8 * (j.val / 1024) + i.val / 512) % 8) + i.val % 512 = i.val; omega)
  have ej : colOf (nOf t) q = j := Fin.ext (by show 1024 * ((8 * (j.val / 1024) + i.val / 512) / 8) + j.val % 1024 = j.val; omega)
  have h := final_tile m c t (ix2 p q)
  rw [place4, tileAt_apply, ei, ej] at h
  exact h

end Cert.KernelIdeal.Ag
-- ==== Proof.RefValue.lean ====
/-
  The result of the reference, element by element, with exact floats: row `i`, column `j` is the gate of the scaled product
  of row `i` of its activation with column `j` of its weight.
-/
module

public import proofs.«01_k».proof.Proof.Gate
public import proofs.«01_k».proof.Proof.Gen.ReferenceIdeal.Value
public import Idealize.ShloMosaic.Lib.MatmulPlain
public import Idealize.ShloMosaic.Lib.ValueIdx
public import Idealize.ShloMosaic.Lib.VecWindow

@[expose] public section

noncomputable section

namespace Cert.ReferenceIdeal.Plain

open Cert.ReferenceIdeal Cert.ReferenceIdeal.Gen
open Cert.KernelIdeal.Ag (gate scaled clipped gateDen)
open Idealize.ShloMosaic
open Idealize.ShloMosaic.TcCoe
open Idealize.ShloMosaic.ValueIdx
open scoped BigOperators

/-! ## The arithmetic -/

theorem dot_plain : dot_S4096x4096_S4096x8192_S4096x8192_1_0_0_1_n_n = DotDims.plain 4096 4096 8192 := rfl

/-- The product of the two arrays, at one element. -/
theorem product_apply (x : FVec Ideal S4096x4096 .f32) (w : FVec Ideal S4096x8192 .f32) (i : Fin 4096) (j : Fin 8192) :
    matmul dot_S4096x4096_S4096x8192_S4096x8192_1_0_0_1_n_n none x w (constant S4096x8192 .f32 0x00000000#32) (ix2 i j)
      = ∑ k : Fin 4096, x (ix2 i k) * w (ix2 k j) := by
  simp only [matmul, dot_plain]
  rw [Ideal.matmul_plain_apply, constant_apply, Ideal.ofBits_zero_f32, zero_add]

theorem whole_apply (x : FVec Ideal S4096x4096 .fp8e4m3) (w : FVec Ideal S4096x8192 .fp8e4m3) (sx sw : Elt Ideal .f32) (i : Fin 4096) (j : Fin 8192) :
    k0_pay1 x w sx sw (ix2 i j) = gate (scaled (fun i k => x (ix2 i k)) (fun k j => w (ix2 k j)) sx sw i j) := by
  have h := product_apply (extf .f32 x bitsLt_fp8e4m3_f32) (extf .f32 w bitsLt_fp8e4m3_f32) i j
  unfold scaled
  unfold gate gateDen clipped
  rw [← Ideal.ofBits_one_f32, ← Ideal.ofBits_zero_f32]
  rw [show (∑ k : Fin 4096, x (ix2 i k) * w (ix2 k j)) = _ from h.symm]
  rfl

/-! ## The array -/

variable (m : (ℓ : Loc nD τ sig) → Buf (Elt Ideal) ℓ) (c : Dev nD)

def point : Fin cfg0.N := ⟨0, by decide⟩

/-- The one entry of a buffer of one entry, as the body reads it. -/
theorem read_one {a : Memref sig .tc .smem S1 .f32} (h : a.IsWhole) (x : Vec Ideal S1 .f32) (y : S1.Idx) :
    a.view.readAt (Elt Ideal) (Rect.unit (s := S1) ![0] S1.size inb_S1_S1_0).toLoadRect (h.unread x) y = x (ix1 0) := by
  rw [View.readAt_full, h.read_unread]
  exact congrArg x (funext fun d => match d with | ⟨0, _⟩ => Fin.ext (Nat.lt_one_iff.mp (y 0).isLt))

/-- What the body leaves in the result's buffer. -/
theorem staged (arg0 : Memref sig .tc .vmem S4096x4096 .fp8e4m3) (harg0 : arg0.IsWhole) (arg1 : Memref sig .tc .vmem S4096x8192 .fp8e4m3) (harg1 : arg1.IsWhole)
    (arg2 : Memref sig .tc .smem S1 .f32) (harg2 : arg2.IsWhole) (arg3 : Memref sig .tc .smem S1 .f32) (harg3 : arg3.IsWhole)
    (arg4 : Memref sig .tc .vmem S4096x8192 .f32) (harg4 : arg4.IsWhole)
    (x : Vec Ideal S4096x4096 .fp8e4m3) (w : Vec Ideal S4096x8192 .fp8e4m3) (sx sw : Vec Ideal S1 .f32) :
    out0_A_4 c arg0 harg0 arg1 harg1 arg2 harg2 arg3 harg3 arg4 harg4 x w sx sw = k0_pay1 x w (sx (ix1 0)) (sw (ix1 0)) := by
  unfold out0_A_4 kernelRun0_A
  simp only
  refine (View.read_writes_full VO0_4 _ inb_S4096x8192_S4096x8192_0_0 _ []).trans ?_
  have e0 := (View.readAt_full arg0.view (harg0.unread x) inb_S4096x4096_S4096x4096_0_0).trans (harg0.read_unread x)
  have e1 := (View.readAt_full arg1.view (harg1.unread w) inb_S4096x8192_S4096x8192_0_0).trans (harg1.read_unread w)
  have e2 : kernelRun0_A.sl.r c arg2 harg2 sx = sx (ix1 0) := read_one harg2 sx _
  have e3 : kernelRun0_A.sl.r_1 c arg3 harg3 sw = sw (ix1 0) := read_one harg3 sw _
  rw [e2, e3]
  exact congrArg₂ (fun x w => k0_pay1 x w (sx (ix1 0)) (sw (ix1 0))) e0 e1

theorem block0 : iblk m c 0 point = m ((c : Thread nD τ).loc main_arg0) := by
  funext y
  refine congrArg (m ((c : Thread nD τ).loc main_arg0)) (funext fun a => Fin.ext ?_)
  match a with
  | ⟨0, _⟩ => show 0 * 4096 + 1 * (y 0).val = (y 0).val; omega
  | ⟨1, _⟩ => show 0 * 4096 + 1 * (y 1).val = (y 1).val; omega
theorem block1 : iblk m c 1 point = m ((c : Thread nD τ).loc main_arg1) := by
  funext y
  refine congrArg (m ((c : Thread nD τ).loc main_arg1)) (funext fun a => Fin.ext ?_)
  match a with
  | ⟨0, _⟩ => show 0 * 4096 + 1 * (y 0).val = (y 0).val; omega
  | ⟨1, _⟩ => show 0 * 8192 + 1 * (y 1).val = (y 1).val; omega
theorem block2 : iblk m c 2 point = m ((c : Thread nD τ).loc main_arg2) := by
  funext y
  refine congrArg (m ((c : Thread nD τ).loc main_arg2)) (funext fun a => Fin.ext ?_)
  match a with
  | ⟨0, _⟩ => show 0 * 1 + 1 * (y 0).val = (y 0).val; omega
theorem block3 : iblk m c 3 point = m ((c : Thread nD τ).loc main_arg3) := by
  funext y
  refine congrArg (m ((c : Thread nD τ).loc main_arg3)) (funext fun a => Fin.ext ?_)
  match a with
  | ⟨0, _⟩ => show 0 * 1 + 1 * (y 0).val = (y 0).val; omega

theorem place (y : S4096x8192.Idx) : ((cfg0.win 4).blk point).view.emb y = y := by
  funext a
  match a with
  | ⟨0, _⟩ => exact Fin.ext (by show 0 * 4096 + 1 * (y 0).val = (y 0).val; omega)
  | ⟨1, _⟩ => exact Fin.ext (by show 0 * 8192 + 1 * (y 1).val = (y 1).val; omega)

/-- What the array of the result ends at. -/
def final : Buf (Elt Ideal) ((c : Thread nD τ).loc main_v0) := (dats m 0 c).arrAt 4 cfg0.N

theorem flushes : (cfg0.win 4).flush point = true := (by decide +kernel : ∀ t : Fin grid0.N, win0_4.flush t = true) point

/-- The block written is the whole of the array. -/
theorem cut_all (X : S4096x8192.Idx → Elt Ideal .f32) (y : S4096x8192.Idx) : (cfg0.win 4).cut (grid0.coords point) X y = X y :=
  congrArg X (funext fun a => Fin.ext rfl)

set_option maxRecDepth 65536 in
/-- The array is what the body leaves in the buffer of the result, -/
theorem final_block : final m c = outsAt0 m c point := by
  funext y
  have h : final m c (((cfg0.win 4).blk point).view.emb y) = (dats m 0 c).flushed 4 point y := congrFun (Value.blocks4 m c point flushes) y
  rw [place, Value.flushed4] at h
  exact h.trans (cut_all (outsAt0 m c point) y)

/-- element by element. -/
theorem final_apply (i : Fin 4096) (j : Fin 8192) :
    final m c (ix2 i j) = gate (scaled (fun i k => m ((c : Thread nD τ).loc main_arg0) (ix2 (n0 := 4096) (n1 := 4096) i k))
      (fun k j => m ((c : Thread nD τ).loc main_arg1) (ix2 (n0 := 4096) (n1 := 8192) k j))
      (m ((c : Thread nD τ).loc main_arg2) (ix1 (n := 1) 0)) (m ((c : Thread nD τ).loc main_arg3) (ix1 (n := 1) 0)) i j) := by
  rw [final_block]
  unfold outsAt0
  rw [staged, block0, block1, block2, block3]
  exact whole_apply _ _ _ _ i j

end Cert.ReferenceIdeal.Plain
-- ==== Proof.Agree.lean ====
/-
  The two results are one: where the blocks of the kernel's arguments are those of the reference's, the gathered arrays are
  the reference's arguments, so every device's result is the reference's.
-/
module

public import proofs.«01_k».proof.Defs
public import proofs.«01_k».proof.Proof.Frames
public import proofs.«01_k».proof.Proof.Result
public import proofs.«01_k».proof.Proof.RefValue
public import Idealize.ShloMosaic.Lib.Layout

@[expose] public section

noncomputable section

namespace Cert.Agree

open Idealize.ShloMosaic
open Idealize.ShloMosaic.TcCoe
open Idealize.ShloMosaic.ValueIdx
open Idealize.SL.Sem
open Cert.KernelIdeal.Ag (xAll wAll gate scaled finalA kernelScaled ArgsKept)

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- Each device has its columns of the activation, its rows of the weight, and the two scales. -/
def Same : Prop := ∀ c : Dev KernelIdeal.nD,
  m ((c.tc : Thread KernelIdeal.nD KernelIdeal.τ).loc KernelIdeal.main_arg0)
      = Layout.block ⟨2, ![4096, 256]⟩ ⟨2, ![4096, 4096]⟩ 1 16 c (m' (((0 : Dev ReferenceIdeal.nD).tc : Thread ReferenceIdeal.nD ReferenceIdeal.τ).loc ReferenceIdeal.main_arg0))
    ∧ m ((c.tc : Thread KernelIdeal.nD KernelIdeal.τ).loc KernelIdeal.main_arg1)
      = Layout.block ⟨2, ![256, 8192]⟩ ⟨2, ![4096, 8192]⟩ 0 16 c (m' (((0 : Dev ReferenceIdeal.nD).tc : Thread ReferenceIdeal.nD ReferenceIdeal.τ).loc ReferenceIdeal.main_arg1))
    ∧ m ((c.tc : Thread KernelIdeal.nD KernelIdeal.τ).loc KernelIdeal.main_arg2) = m' (((0 : Dev ReferenceIdeal.nD).tc : Thread ReferenceIdeal.nD ReferenceIdeal.τ).loc ReferenceIdeal.main_arg2)
    ∧ m ((c.tc : Thread KernelIdeal.nD KernelIdeal.τ).loc KernelIdeal.main_arg3) = m' (((0 : Dev ReferenceIdeal.nD).tc : Thread ReferenceIdeal.nD ReferenceIdeal.τ).loc ReferenceIdeal.main_arg3)

variable {m m'} (h : Same m m')

include h in
theorem x_same (i k : Fin 4096) : xAll m (ix2 (n0 := 4096) (n1 := 4096) i k)
    = m' (((0 : Dev ReferenceIdeal.nD).tc : Thread ReferenceIdeal.nD ReferenceIdeal.τ).loc ReferenceIdeal.main_arg0) (ix2 (n0 := 4096) (n1 := 4096) i k) := by
  have hk := k.isLt
  unfold xAll
  rw [(h _).1]
  refine congrArg (m' _) (funext fun a => ?_)
  match a with
  | ⟨0, _⟩ => exact Fin.ext rfl
  | ⟨1, _⟩ => exact Fin.ext (by show k.val / 256 * 256 + k.val % 256 = k.val; omega)

include h in
theorem w_same (k : Fin 4096) (j : Fin 8192) : wAll m (ix2 (n0 := 4096) (n1 := 8192) k j)
    = m' (((0 : Dev ReferenceIdeal.nD).tc : Thread ReferenceIdeal.nD ReferenceIdeal.τ).loc ReferenceIdeal.main_arg1) (ix2 (n0 := 4096) (n1 := 8192) k j) := by
  have hk := k.isLt
  unfold wAll
  rw [(h _).2.1]
  refine congrArg (m' _) (funext fun a => ?_)
  match a with
  | ⟨0, _⟩ => exact Fin.ext (by show k.val / 256 * 256 + k.val % 256 = k.val; omega)
  | ⟨1, _⟩ => exact Fin.ext rfl

include h in
/-- Every device's result is the reference's. -/
theorem final_same (c : Dev KernelIdeal.nD) : finalA m c 4 = ReferenceIdeal.Plain.final m' 0 := by
  funext y
  obtain ⟨i, j, rfl⟩ : ∃ (i : Fin 4096) (j : Fin 8192), y = ix2 i j := ⟨y 0, y 1, eq_ix2 y⟩
  refine (Cert.KernelIdeal.Ag.final_apply m c i j).trans (Eq.trans ?_ (ReferenceIdeal.Plain.final_apply m' 0 i j).symm)
  unfold kernelScaled
  rw [(h c).2.2.1, (h c).2.2.2]
  simp only [x_same h, w_same h]

theorem algebraic : Cert.algebraic_KernelIdeal_ReferenceIdeal := fun m g m' g' _ h =>
  have h : Same m m' := h
  ⟨ReferenceIdeal.Plain.final m' 0,
    (θ_run _ _ _).mono (fun r hr c => ⟨(hr.1 c 4).trans (final_same h c), Cert.KernelIdeal.Ag.args_kept m c r hr.1⟩) (Cert.KernelIdeal.Ag.run_main m g),
    (θ_run _ _ _).mono (fun r hr => hr 0) (ReferenceIdeal.Value.run_blocks m' g')⟩

end Cert.Agree
-- ==== Proof.lean ====
/-
  The claims, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Frames
public import proofs.«01_k».proof.Proof.Agree

@[expose] public section

noncomputable section

namespace Cert.Proof

theorem claim : Cert.Claim := ⟨Cert.Kernel.Gen.facts, Cert.KernelIdeal.Gen.facts, Cert.ReferenceIdeal.Gen.facts,
  Cert.KernelIdeal.Ag.frame_kernel, Cert.KernelIdeal.Ag.frame_ideal, fun m ρ _ => Cert.ReferenceIdeal.Gen.frame m ρ, trivial, Cert.Agree.algebraic⟩

end Cert.Proof

end
